-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![1536, 3072]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 1536]⟩ ⟨2, ![3072, 1536]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x768 : Shape := ⟨2, ![1536, 768]⟩
abbrev S768x1536 : Shape := ⟨2, ![768, 1536]⟩
abbrev S1536x1536 : Shape := ⟨2, ![1536, 1536]⟩
abbrev S2x384x768 : Shape := ⟨3, ![2, 384, 768]⟩
abbrev S12 : Shape := ⟨1, ![12]⟩
abbrev S_ : Shape := ⟨0, ![]⟩
abbrev S384x768 : Shape := ⟨2, ![384, 768]⟩
abbrev S768x768 : Shape := ⟨2, ![768, 768]⟩
abbrev S1 : Shape := ⟨1, ![1]⟩
abbrev S1x384x768 : Shape := ⟨3, ![1, 384, 768]⟩

abbrev nBuf : Space → Nat
  | .hbm => 3
  | .vmem => 14
  | .smem => 0
  | _ => 0

abbrev bufTy : (tb : Table) → Fin (tcTables nBuf tb) → BufTy
  | .hbm, ⟨0, _⟩ => ⟨S1536x768, .f32⟩
  | .hbm, ⟨1, _⟩ => ⟨S768x1536, .f32⟩
  | .hbm, ⟨2, _⟩ => ⟨S1536x1536, .f32⟩
  | .local _ .vmem, ⟨0, _⟩ => ⟨S1536x768, .f32⟩
  | .local _ .vmem, ⟨1, _⟩ => ⟨S768x1536, .f32⟩
  | .local _ .vmem, ⟨2, _⟩ => ⟨S1536x1536, .f32⟩
  | .local _ .vmem, ⟨3, _⟩ => ⟨S1536x768, .bf16⟩
  | .local _ .vmem, ⟨4, _⟩ => ⟨S768x1536, .bf16⟩
  | .local _ .vmem, ⟨5, _⟩ => ⟨S1536x1536, .bf16⟩
  | .local _ .vmem, ⟨6, _⟩ => ⟨S2x384x768, .bf16⟩
  | .local _ .vmem, ⟨7, _⟩ => ⟨S2x384x768, .bf16⟩
  | .local _ .vmem, ⟨8, _⟩ => ⟨S2x384x768, .bf16⟩
  | .local _ .vmem, ⟨9, _⟩ => ⟨S2x384x768, .bf16⟩
  | .local _ .vmem, ⟨10, _⟩ => ⟨S2x384x768, .bf16⟩
  | .local _ .vmem, ⟨11, _⟩ => ⟨S2x384x768, .bf16⟩
  | .local _ .vmem, ⟨12, _⟩ => ⟨S2x384x768, .bf16⟩
  | .local _ .vmem, ⟨13, _⟩ => ⟨S2x384x768, .bf16⟩
  | _, _ => ⟨S1536x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_13 : BitVec 32 := 1#32
  let v21 : BitVec 32 := Scalar.muli v5 c1_i32_13
  let v22 : BitVec 32 := Scalar.addi c0_i32 v21
  v22.toNat
def k0_dev2 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_15 : BitVec 32 := 1#32
  let v23 : BitVec 32 := Scalar.muli v7 c1_i32_15
  let v24 : BitVec 32 := Scalar.addi c0_i32_16 v23
  v24.toNat
def k0_off1 (d0 : Dev nD) (c1_i32_29 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v41 : BitVec 32 := Scalar.addi v2 c1_i32_29
  let c16_i32_30 : BitVec 32 := 16#32
  let v42 : BitVec 32 := Scalar.addi v41 c16_i32_30
  let c4_i32_31 : BitVec 32 := 4#32
  let v43 : BitVec 32 := Scalar.remsi v42 c4_i32_31
  let c384_i32_32 : BitVec 32 := 384#32
  let v44 : BitVec 32 := Scalar.muli v43 c384_i32_32
  let v45 : Index := Scalar.indexCast v44
  let c0_33 : Index := 0#32
  ![v45.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_29 : BitVec 32 := 1#32
  let v41 : BitVec 32 := Scalar.addi v2 c1_i32_29
  let c16_i32_36 : BitVec 32 := 16#32
  let v50 : BitVec 32 := Scalar.addi v41 c16_i32_36
  let c4_i32_37 : BitVec 32 := 4#32
  let v51 : BitVec 32 := Scalar.remsi v50 c4_i32_37
  let c384_i32_38 : BitVec 32 := 384#32
  let v52 : BitVec 32 := Scalar.muli v51 c384_i32_38
  let v53 : Index := Scalar.indexCast v52
  let c0_39 : Index := 0#32
  ![v53.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_17 : BitVec 32 := 1#32
  let v25 : BitVec 32 := Scalar.addi v2 c1_i32_17
  let c16_i32 : BitVec 32 := 16#32
  let v26 : BitVec 32 := Scalar.addi v25 c16_i32
  let c4_i32_18 : BitVec 32 := 4#32
  let v27 : BitVec 32 := Scalar.remsi v26 c4_i32_18
  let c384_i32 : BitVec 32 := 384#32
  let v28 : BitVec 32 := Scalar.muli v27 c384_i32
  let c0_i32_47 : BitVec 32 := 0#32
  ![v28.toNat, 0]
def k0_dev3 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_43 : BitVec 32 := 1#32
  let v57 : BitVec 32 := Scalar.muli v7 c1_i32_43
  let v58 : BitVec 32 := Scalar.addi c0_i32_44 v57
  v58.toNat
def k0_off4 (d0 : Dev nD) (c1_i32_48 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v66 : BitVec 32 := Scalar.subi v2 c1_i32_48
  let c16_i32_49 : BitVec 32 := 16#32
  let v67 : BitVec 32 := Scalar.addi v66 c16_i32_49
  let c4_i32_50 : BitVec 32 := 4#32
  let v68 : BitVec 32 := Scalar.remsi v67 c4_i32_50
  let c384_i32_51 : BitVec 32 := 384#32
  let v69 : BitVec 32 := Scalar.muli v68 c384_i32_51
  let v70 : Index := Scalar.indexCast v69
  let c0_52 : Index := 0#32
  ![v70.toNat, 0]
def k0_off5 (d0 : Dev nD) (c1_i32_48 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v66 : BitVec 32 := Scalar.subi v2 c1_i32_48
  let c16_i32_55 : BitVec 32 := 16#32
  let v75 : BitVec 32 := Scalar.addi v66 c16_i32_55
  let c4_i32_56 : BitVec 32 := 4#32
  let v76 : BitVec 32 := Scalar.remsi v75 c4_i32_56
  let c384_i32_57 : BitVec 32 := 384#32
  let v77 : BitVec 32 := Scalar.muli v76 c384_i32_57
  let v78 : Index := Scalar.indexCast v77
  let c768_58 : Index := 768#32
  ![v78.toNat, 768]
def k0_off5_at (r : Fin 3) : BitVec 32 :=
  if r.val < 1 then
    1#32
  else
    if r.val < 2 then
      4294967295#32
    else
      4294967294#32
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32 : BitVec 32 := 4294967295#32
  let v33 : BitVec 32 := Scalar.addi v2 c_m1_i32
  let c16_i32_23 : BitVec 32 := 16#32
  let v34 : BitVec 32 := Scalar.addi v33 c16_i32_23
  let c4_i32_24 : BitVec 32 := 4#32
  let v35 : BitVec 32 := Scalar.remsi v34 c4_i32_24
  let c384_i32_25 : BitVec 32 := 384#32
  let v36 : BitVec 32 := Scalar.muli v35 c384_i32_25
  let c768_i32 : BitVec 32 := 768#32
  ![v36.toNat, 768]
def k0_dev4 (d0 : Dev nD) : Nat :=
  let c0_i32_63 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_62 : BitVec 32 := 1#32
  let v82 : BitVec 32 := Scalar.muli v5 c1_i32_62
  let v83 : BitVec 32 := Scalar.addi c0_i32_63 v82
  v83.toNat
def k0_off7 (d0 : Dev nD) (c2_i32_66 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v91 : BitVec 32 := Scalar.subi v2 c2_i32_66
  let c16_i32_74 : BitVec 32 := 16#32
  let v100 : BitVec 32 := Scalar.addi v91 c16_i32_74
  let c4_i32_75 : BitVec 32 := 4#32
  let v101 : BitVec 32 := Scalar.remsi v100 c4_i32_75
  let c384_i32_76 : BitVec 32 := 384#32
  let v102 : BitVec 32 := Scalar.muli v101 c384_i32_76
  let v103 : Index := Scalar.indexCast v102
  let c0_77 : Index := 0#32
  ![v103.toNat, 0]
def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_19 : BitVec 32 := 2#32
  let v29 : BitVec 32 := Scalar.subi v2 c2_i32_19
  let c16_i32_20 : BitVec 32 := 16#32
  let v30 : BitVec 32 := Scalar.addi v29 c16_i32_20
  let c4_i32_21 : BitVec 32 := 4#32
  let v31 : BitVec 32 := Scalar.remsi v30 c4_i32_21
  let c384_i32_22 : BitVec 32 := 384#32
  let v32 : BitVec 32 := Scalar.muli v31 c384_i32_22
  let c0_i32_85 : BitVec 32 := 0#32
  ![v32.toNat, 0]
def k0_dev5 (d0 : Dev nD) : Nat :=
  let c0_i32_82 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_81 : BitVec 32 := 1#32
  let v107 : BitVec 32 := Scalar.muli v5 c1_i32_81
  let v108 : BitVec 32 := Scalar.addi c0_i32_82 v107
  v108.toNat
def k0_off9 (d0 : Dev nD) (c2_i32_86 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v116 : BitVec 32 := Scalar.addi v2 c2_i32_86
  let c16_i32_94 : BitVec 32 := 16#32
  let v125 : BitVec 32 := Scalar.addi v116 c16_i32_94
  let c4_i32_95 : BitVec 32 := 4#32
  let v126 : BitVec 32 := Scalar.remsi v125 c4_i32_95
  let c384_i32_96 : BitVec 32 := 384#32
  let v127 : BitVec 32 := Scalar.muli v126 c384_i32_96
  let v128 : Index := Scalar.indexCast v127
  let c768_97 : Index := 768#32
  ![v128.toNat, 768]
def k0_off9_at (r : Fin 3) : BitVec 32 :=
  if r.val < 1 then
    2#32
  else
    if r.val < 2 then
      1#32
    else
      4294967295#32
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m2_i32 : BitVec 32 := 4294967294#32
  let v37 : BitVec 32 := Scalar.subi v2 c_m2_i32
  let c16_i32_26 : BitVec 32 := 16#32
  let v38 : BitVec 32 := Scalar.addi v37 c16_i32_26
  let c4_i32_27 : BitVec 32 := 4#32
  let v39 : BitVec 32 := Scalar.remsi v38 c4_i32_27
  let c384_i32_28 : BitVec 32 := 384#32
  let v40 : BitVec 32 := Scalar.muli v39 c384_i32_28
  let c768_i32_104 : BitVec 32 := 768#32
  ![v40.toNat, 768]
def k0_dev6 (d0 : Dev nD) : Nat :=
  let c0_i32_101 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_100 : BitVec 32 := 1#32
  let v132 : BitVec 32 := Scalar.muli v7 c1_i32_100
  let v133 : BitVec 32 := Scalar.addi c0_i32_101 v132
  v133.toNat
def k0_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16_i32_129 : BitVec 32 := 16#32
  let v173 : BitVec 32 := Scalar.addi v2 c16_i32_129
  let c4_i32_130 : BitVec 32 := 4#32
  let v174 : BitVec 32 := Scalar.remsi v173 c4_i32_130
  let c384_i32_131 : BitVec 32 := 384#32
  let v175 : BitVec 32 := Scalar.muli v174 c384_i32_131
  let v176 : Index := Scalar.indexCast v175
  let c0_132 : Index := 0#32
  ![v176.toNat, 0]
def k0_off12 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16_i32_136 : BitVec 32 := 16#32
  let v181 : BitVec 32 := Scalar.addi v2 c16_i32_136
  let c4_i32_137 : BitVec 32 := 4#32
  let v182 : BitVec 32 := Scalar.remsi v181 c4_i32_137
  let c384_i32_138 : BitVec 32 := 384#32
  let v183 : BitVec 32 := Scalar.muli v182 c384_i32_138
  let v184 : Index := Scalar.indexCast v183
  let c0_139 : Index := 0#32
  ![v184.toNat, 0]
def k0_off13 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16_i32_147 : BitVec 32 := 16#32
  let v196 : BitVec 32 := Scalar.addi v2 c16_i32_147
  let c4_i32_148 : BitVec 32 := 4#32
  let v197 : BitVec 32 := Scalar.remsi v196 c4_i32_148
  let c384_i32_149 : BitVec 32 := 384#32
  let v198 : BitVec 32 := Scalar.muli v197 c384_i32_149
  let v199 : Index := Scalar.indexCast v198
  let c768_150 : Index := 768#32
  ![v199.toNat, 768]
def k0_dev7 (d0 : Dev nD) : Nat :=
  let c0_i32_175 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_174 : BitVec 32 := 1#32
  let v222 : BitVec 32 := Scalar.muli v5 c1_i32_174
  let v223 : BitVec 32 := Scalar.addi c0_i32_175 v222
  v223.toNat
def k0_dev8 (d0 : Dev nD) : Nat :=
  let c0_i32_202 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_201 : BitVec 32 := 1#32
  let v251 : BitVec 32 := Scalar.muli v7 c1_i32_201
  let v252 : BitVec 32 := Scalar.addi c0_i32_202 v251
  v252.toNat
def k0_dev9 (d0 : Dev nD) : Nat :=
  let c0_i32_246 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_245 : BitVec 32 := 1#32
  let v307 : BitVec 32 := Scalar.muli v7 c1_i32_245
  let v308 : BitVec 32 := Scalar.addi c0_i32_246 v307
  v308.toNat
def k0_dev10 (d0 : Dev nD) : Nat :=
  let c0_i32_255 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_254 : BitVec 32 := 1#32
  let v317 : BitVec 32 := Scalar.muli v5 c1_i32_254
  let v318 : BitVec 32 := Scalar.addi c0_i32_255 v317
  v318.toNat
def k0_dev11 (d0 : Dev nD) : Nat :=
  let c0_i32_303 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_302 : BitVec 32 := 1#32
  let v378 : BitVec 32 := Scalar.muli v5 c1_i32_302
  let v379 : BitVec 32 := Scalar.addi c0_i32_303 v378
  v379.toNat
def k0_dev12 (d0 : Dev nD) : Nat :=
  let c0_i32_312 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_311 : BitVec 32 := 1#32
  let v388 : BitVec 32 := Scalar.muli v7 c1_i32_311
  let v389 : BitVec 32 := Scalar.addi c0_i32_312 v388
  v389.toNat
def k0_dev13 (d0 : Dev nD) : Nat :=
  let c0_i32_335 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_334 : BitVec 32 := 1#32
  let v411 : BitVec 32 := Scalar.muli v7 c1_i32_334
  let v412 : BitVec 32 := Scalar.addi c0_i32_335 v411
  v412.toNat
def k0_dev14 (d0 : Dev nD) : Nat :=
  let c0_i32_362 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_361 : BitVec 32 := 1#32
  let v438 : BitVec 32 := Scalar.muli v5 c1_i32_361
  let v439 : BitVec 32 := Scalar.addi c0_i32_362 v438
  v439.toNat
abbrev stage0_0 : Fin 1 → Memref sig .tc .vmem S1536x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1536x3072 : Shape := ⟨2, ![1536, 3072]⟩
abbrev S3072x1536 : Shape := ⟨2, ![3072, 1536]⟩
abbrev S1536x1536 : Shape := ⟨2, ![1536, 1536]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S1536x3072, .f32⟩
  | .hbm, ⟨1, _⟩ => ⟨S3072x1536, .f32⟩
  | .hbm, ⟨2, _⟩ => ⟨S1536x1536, .f32⟩
  | .hbm, ⟨3, _⟩ => ⟨S_, .f32⟩
  | .hbm, ⟨4, _⟩ => ⟨S1536x1536, .f32⟩
  | .hbm, ⟨5, _⟩ => ⟨S1536x1536, .f32⟩
  | .hbm, ⟨6, _⟩ => ⟨S_, .f32⟩
  | .hbm, ⟨7, _⟩ => ⟨S1536x1536, .f32⟩
  | .hbm, ⟨8, _⟩ => ⟨S1536x1536, .f32⟩
  | .hbm, ⟨9, _⟩ => ⟨S1536x1536, .f32⟩
  | .hbm, ⟨10, _⟩ => ⟨S1536x1536, .f32⟩
  | .hbm, ⟨11, _⟩ => ⟨S1536x1536, .f32⟩
  | .hbm, ⟨12, _⟩ => ⟨S_, .f32⟩
  | .hbm, ⟨13, _⟩ => ⟨S1536x1536, .f32⟩
  | .hbm, ⟨14, _⟩ => ⟨S1536x1536, .f32⟩
  | .hbm, ⟨15, _⟩ => ⟨S1536x1536, .f32⟩
  | .hbm, ⟨16, _⟩ => ⟨S_, .f32⟩
  | .hbm, ⟨17, _⟩ => ⟨S1536x1536, .f32⟩
  | .hbm, ⟨18, _⟩ => ⟨S1536x1536, .f32⟩
  | .hbm, ⟨19, _⟩ => ⟨S1536x1536, .f32⟩
  | _, _ => ⟨S1536x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Same.lean ====
/-
# The two texts are one

The kernel and its idealization are printed separately and read the same, so that at the same kind of
number their bodies are the same function: what is shown of a run of one holds of the other.
-/
module

public import proofs.«01_k».proof.Proof.Gen.Kernel
public import proofs.«01_k».proof.Proof.Gen.KernelIdeal
public import Idealize.ShloMosaic.PureOps.BitExact

@[expose] public section

noncomputable section

namespace Cert.Ring

open Idealize.ShloMosaic

/-- The call's body, over the float words. -/
theorem body_same : @Cert.Kernel.cc0_body Bits _ _ = @Cert.KernelIdeal.cc0_body Bits _ _ := rfl

/-- The table that names it. -/
theorem calls_same : Cert.Kernel.defs₀ (F := Bits) = Cert.KernelIdeal.defs₀ (F := Bits) := by
  unfold Cert.Kernel.defs₀ Cert.KernelIdeal.defs₀
  congr 1
  funext l a
  match l, a with
  | 0, (t, s) => rw [body_same]

/-- The whole program's table. -/
theorem defs_same : Cert.Kernel.defs (F := Bits) = Cert.KernelIdeal.defs (F := Bits) :=
  congrArg (Pipeline.defs Cert.KernelIdeal.pcfgs) calls_same

end Cert.Ring

end
-- ==== Proof.Contents.lean ====
/-
# What the buffers hold

The four devices stand in a ring. Device `c` holds a block of 768 columns of the first factor and the
matching block of 768 rows of the second. This module names, for every device, the values its buffers
take: its partial products, the sums it relays, the chunk of the answer it finishes, and the copies of
the other chunks that reach it. Every quantity is a function of the blocks of all four devices, for any
float values.

A chunk is 384 rows; half `s` of the columns travels one way round the ring (`s = 0` upwards, `s = 1`
downwards).
-/
module

public import proofs.«01_k».proof.Proof.Gen.KernelIdeal.Skeleton

@[expose] public section

set_option maxRecDepth 16384

noncomputable section

namespace Cert.Ring

open Cert.KernelIdeal Cert.KernelIdeal.Gen
open Idealize.ShloMosaic

variable {F : FTy → Type} [FloatOps F]

/-! ## The ring -/

set_option backward.proofsInPublic true in
/-- The device `k` places above `c` on the ring. -/
def above (k : ℕ) (c : Dev nD) : Dev nD := ⟨(c.val + k) % 4, Nat.mod_lt _ (by decide)⟩

/-- The neighbour half `s` of the columns travels towards. -/
def fore (s : Fin 2) (c : Dev nD) : Dev nD := above (if s = 0 then 1 else 3) c
/-- The neighbour half `s` of the columns comes from. -/
def back (s : Fin 2) (c : Dev nD) : Dev nD := above (if s = 0 then 3 else 1) c

theorem fore_back (s : Fin 2) (c : Dev nD) : fore s (back s c) = c := by revert s c; decide
theorem back_fore (s : Fin 2) (c : Dev nD) : back s (fore s c) = c := by revert s c; decide
theorem fore_fore (s : Fin 2) (c : Dev nD) : fore s (fore s c) = back s (back s c) := by revert s c; decide
theorem fore_ne (s : Fin 2) (c : Dev nD) : fore s c ≠ c := by revert s c; decide
theorem back_ne (s : Fin 2) (c : Dev nD) : back s c ≠ c := by revert s c; decide
theorem back_back_ne (s : Fin 2) (c : Dev nD) : back s (back s c) ≠ c := by revert s c; decide

/-! ## Pieces of the arrays -/

/-- Row and column where chunk `j`, half `s`, of the partial products and of the answer begins. -/
def offC (t : Dev nD × Fin 2) : Fin 2 → ℕ := ![384 * t.1.val, 768 * t.2.val]
theorem offC_inb (t : Dev nD × Fin 2) : ∀ a, offC t a + S384x768.size a ≤ S1536x1536.size a := by
  revert t; decide
/-- Where chunk `j` of a device's block of the first factor begins. -/
def offA (j : Dev nD) : Fin 2 → ℕ := ![384 * j.val, 0]
theorem offA_inb (j : Dev nD) : ∀ a, offA j a + S384x768.size a ≤ S1536x768.size a := by revert j; decide
/-- Where half `s` of a device's block of the second factor begins. -/
def offB (s : Fin 2) : Fin 2 → ℕ := ![0, 768 * s.val]
theorem offB_inb (s : Fin 2) : ∀ a, offB s a + S768x768.size a ≤ S768x1536.size a := by revert s; decide

/-- Chunk `j`, half `s`, as a rectangle. -/
abbrev rectC (t : Dev nD × Fin 2) : Rect S1536x1536 := Rect.unit (s := S1536x1536) (offC t) S384x768.size (offC_inb t)
/-- Chunk `j` of the first factor's block, as a rectangle. -/
abbrev rectA (j : Dev nD) : Rect S1536x768 := Rect.unit (s := S1536x768) (offA j) S384x768.size (offA_inb j)
/-- Half `s` of the second factor's block, as a rectangle. -/
abbrev rectB (s : Fin 2) : Rect S768x1536 := Rect.unit (s := S768x1536) (offB s) S768x768.size (offB_inb s)

/-- Chunk `j` of a block of the first factor. -/
def rowsOf (v : Vec F S1536x768 .bf16) (j : Dev nD) : Vec F S384x768 .bf16 := fun i => v ((rectA j).emb i)
/-- Half `s` of a block of the second factor. -/
def colsOf (v : Vec F S768x1536 .bf16) (s : Fin 2) : Vec F S768x768 .bf16 := fun i => v ((rectB s).emb i)

/-! ## The values -/

section Values

variable (x : Dev nD → Vec F S1536x768 .f32) (y : Dev nD → Vec F S768x1536 .f32)

/-- A value as a slot of a two-slot buffer holds it. -/
def slot (v : Vec F S384x768 .bf16) : Vec F S1x384x768 .bf16 := k0_pay13 v

/-- Device `d`'s partial product of chunk `j`, half `s`. -/
def partialAt (d : Dev nD) (t : Dev nD × Fin 2) : Vec F S384x768 .bf16 :=
  k0_pay3 (rowsOf (k0_pay1 (x d)) t.1) (colsOf (k0_pay2 (y d)) t.2)

/-- What device `c` passes on of half `s`: its own partial product of the chunk of the device behind it,
    added to the one the device before it sent. -/
def relayAt (s : Fin 2) (c : Dev nD) : Vec F S384x768 .bf16 :=
  k0_pay12 (slot (partialAt x y (fore s c) (back s c, s))) (partialAt x y c (back s c, s))

/-- Device `c`'s finished chunk, half `s`. -/
def doneAt (s : Fin 2) (c : Dev nD) : Vec F S384x768 .f32 :=
  k0_pay16 (partialAt x y c (c, s)) (slot (partialAt x y (back s c) (c, s))) (slot (relayAt x y s (fore s c)))

/-- The finished chunk as it is sent. -/
def sentAt (s : Fin 2) (c : Dev nD) : Vec F S384x768 .bf16 := truncf .bf16 (doneAt x y s c) bitsLt_bf16_f32

/-- What device `c` holds of the answer's chunk `j`, half `s`: its own as computed, another's as received. -/
def chunkAt (c : Dev nD) (t : Dev nD × Fin 2) : Vec F S384x768 .f32 :=
  if t.1 = c then doneAt x y t.2 c else k0_pay20 (slot (sentAt x y t.2 t.1))

end Values

/-- An index of the whole answer: the chunk and half it lies in, -/
def chunkOf (i : S1536x1536.Idx) : Dev nD × Fin 2 :=
  (⟨(i 0).val / 384, by have := (i 0).isLt; simp only [Matrix.cons_val_zero] at this; show _ < 4; omega⟩,
   ⟨(i 1).val / 768, by have := (i 1).isLt; simp only [Matrix.cons_val_one, Matrix.cons_val_zero] at this; omega⟩)
/-- and the index within them. -/
def innerOf (i : S1536x1536.Idx) : S384x768.Idx := fun a => match a with
  | ⟨0, _⟩ => ⟨(i 0).val % 384, Nat.mod_lt _ (by decide)⟩
  | ⟨1, _⟩ => ⟨(i 1).val % 768, Nat.mod_lt _ (by decide)⟩

/-- An array laid out from its eight pieces. -/
def assemble {α : Type} (V : Dev nD × Fin 2 → S384x768.Idx → α) : S1536x1536.Idx → α :=
  fun i => V (chunkOf i) (innerOf i)

theorem chunkOf_emb (t : Dev nD × Fin 2) (i : (rectC t).shape.Idx) :
    chunkOf ((rectC t).emb i) = t ∧ innerOf ((rectC t).emb i) = i := by
  obtain ⟨j, s⟩ := t
  have h0 : (((rectC (j, s)).emb i) 0).val = 384 * j.val + (i 0).val := by
    simp [Rect.emb, Rect.unit, offC]
  have h1 : (((rectC (j, s)).emb i) 1).val = 768 * s.val + (i 1).val := by
    simp [Rect.emb, Rect.unit, offC]
  have b0 : (i 0).val < 384 := (i 0).isLt
  have b1 : (i 1).val < 768 := (i 1).isLt
  constructor
  · refine Prod.ext (Fin.ext ?_) (Fin.ext ?_)
    · show (((rectC (j, s)).emb i) 0).val / 384 = j.val
      rw [h0]; omega
    · show (((rectC (j, s)).emb i) 1).val / 768 = s.val
      rw [h1]; omega
  · funext a
    fin_cases a
    · refine Fin.ext ?_
      show (((rectC (j, s)).emb i) 0).val % 384 = (i 0).val
      rw [h0]; omega
    · refine Fin.ext ?_
      show (((rectC (j, s)).emb i) 1).val % 768 = (i 1).val
      rw [h1]; omega

theorem emb_innerOf (i : S1536x1536.Idx) : (rectC (chunkOf i)).emb (innerOf i) = i := by
  funext a
  fin_cases a
  · refine Fin.ext ?_
    have h : (((rectC (chunkOf i)).emb (innerOf i)) 0).val = 384 * ((i 0).val / 384) + (i 0).val % 384 := by
      simp [Rect.emb, Rect.unit, offC, chunkOf, innerOf]
    exact h.trans (Nat.div_add_mod _ _)
  · refine Fin.ext ?_
    have h : (((rectC (chunkOf i)).emb (innerOf i)) 1).val = 768 * ((i 1).val / 768) + (i 1).val % 768 := by
      simp [Rect.emb, Rect.unit, offC, chunkOf, innerOf]
    exact h.trans (Nat.div_add_mod _ _)

theorem assemble_emb {α : Type} (V : Dev nD × Fin 2 → S384x768.Idx → α) (t : Dev nD × Fin 2) (i : (rectC t).shape.Idx) :
    assemble V ((rectC t).emb i) = V t i := by
  unfold assemble
  rw [(chunkOf_emb t i).1, (chunkOf_emb t i).2]

end Cert.Ring

end
-- ==== Proof.Protocol.lean ====
/-
# The protocol of the exchange

Every device first tells both neighbours that its receive buffers are free, and waits to hear the same
from both. Then each half of the columns is exchanged by six messages:

* message 0 carries the partial product of a neighbour's chunk to that neighbour;
* message 1 carries the partial product of the opposite device's chunk to the neighbour between;
* message 2 carries on the sum that neighbour forms, to the chunk's device;
* messages 3 and 4 carry the finished chunk to the two neighbours;
* message 5 carries a neighbour's finished chunk on to the opposite device.

A message has a semaphore at each end. This module lists the semaphore cells, what each raise of a cell
hands over, what every device owes at the start, and the order in which the cells may be waited for.
-/
module

public import proofs.«01_k».proof.Proof.Contents
public import proofs.«01_k».proof.Proof.Gen.KernelIdeal.Frame
public import Idealize.ShloMosaic.Lib.Pipeline.Launch
public import Idealize.ShloMosaic.Lib.Pipeline.Kit
public import Idealize.ShloMosaic.Lib.MemrefSat
public import Idealize.ShloMosaic.Lib.Tactic

@[expose] public section

set_option maxRecDepth 16384

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the launch's own, and one for the exchange's cells -/

abbrev UB : Type := URounds (GSem nD τ sig) (Fin 2)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Memrefs -/

/-- A two-slot buffer. -/
abbrev Slots := Memref sig .tc .vmem S2x384x768 .bf16

/-- The device's block of the first factor, narrowed; -/
abbrev aM : Memref sig .tc .vmem S1536x768 .bf16 := Memref.whole cc0_scratch0
/-- of the second; -/
abbrev bM : Memref sig .tc .vmem S768x1536 .bf16 := Memref.whole cc0_scratch1
/-- the partial products; -/
abbrev pM : Memref sig .tc .vmem S1536x1536 .bf16 := Memref.whole cc0_scratch2
/-- the answer; -/
abbrev oM : Memref sig .tc .vmem S1536x1536 .f32 := Memref.whole cc0_stg2_0
/-- the sums to pass on; -/
abbrev relayM : Slots := Memref.whole cc0_scratch5
/-- the finished chunk as sent; -/
abbrev sentM : Slots := Memref.whole cc0_scratch7
/-- the finished chunk of the neighbour behind, which is passed on; -/
abbrev nearM : Slots := Memref.whole cc0_scratch8
/-- the buffer each message lands in. -/
abbrev landM (f : Fin 6) : Slots :=
  (![Memref.whole cc0_scratch3, Memref.whole cc0_scratch4, Memref.whole cc0_scratch6, Memref.whole cc0_scratch8,
     Memref.whole cc0_scratch9, Memref.whole cc0_scratch10] : Fin 6 → Slots) f

/-- Where slot `s` begins. -/
def offS (s : Fin 2) : Fin 3 → ℕ := ![s.val, 0, 0]
theorem offS_inb (s : Fin 2) : ∀ a, offS s a + S1x384x768.size a ≤ S2x384x768.size a := by revert s; decide
/-- Slot `s` as a rectangle, -/
abbrev rectS (s : Fin 2) : Rect S2x384x768 := Rect.unit (s := S2x384x768) (offS s) S1x384x768.size (offS_inb s)
/-- and as a memref, -/
abbrev slotM (b : Slots) (s : Fin 2) : Memref sig .tc .vmem S1x384x768 .bf16 := b.slice (rectS s) (fun _ => rfl)
/-- and as the memref of a transfer. -/
abbrev flatM (b : Slots) (s : Fin 2) : Memref sig .tc .vmem S384x768 .bf16 :=
  (slotM b s).squeeze S384x768 squeezes_S1x384x768_S384x768

/-- A chunk's half of the partial products; -/
abbrev chunkM (t : Dev nD × Fin 2) : Memref sig .tc .vmem S384x768 .bf16 := pM.slice (rectC t) (fun _ => rfl)
/-- and of the answer. -/
abbrev answerM (t : Dev nD × Fin 2) : Memref sig .tc .vmem S384x768 .f32 := oM.slice (rectC t) (fun _ => rfl)

/-- What a message adds to the counters at its ends. -/
abbrev N : ℕ := (flatM (Memref.whole cc0_scratch3) 0).view.dmaCredit
theorem N_pos : 0 < N := View.dmaCredit_pos _ (by decide)

/-! ## Messages and cells -/

/-- The device message `f` of half `s` goes to from `c`, -/
def dest (f : Fin 6) (s : Fin 2) (c : Dev nD) : Dev nD :=
  (![fore s c, back s c, back s c, fore s c, back s c, fore s c] : Fin 6 → Dev nD) f
/-- and the one from which it comes. -/
def orig (f : Fin 6) (s : Fin 2) (c : Dev nD) : Dev nD :=
  (![back s c, fore s c, fore s c, back s c, fore s c, back s c] : Fin 6 → Dev nD) f
theorem dest_orig (f : Fin 6) (s : Fin 2) (c : Dev nD) : dest f s (orig f s c) = c := by revert f s c; decide
theorem orig_dest (f : Fin 6) (s : Fin 2) (c : Dev nD) : orig f s (dest f s c) = c := by revert f s c; decide

/-- The barrier semaphore. -/
abbrev barS : Sem sig := (SemArray.scalar (sig.barrier 0 rfl) : Sems sig S_).sem

set_option backward.proofsInPublic true in
/-- The semaphore at the sending end of message `f`, half `s`; -/
def sendS (f : Fin 6) (s : Fin 2) : DmaSem sig := ⟨3 + (2 * f.val + s.val), by have := f.isLt; have := s.isLt; show _ < 27; omega⟩
set_option backward.proofsInPublic true in
/-- at the receiving end. -/
def recvS (f : Fin 6) (s : Fin 2) : DmaSem sig := ⟨15 + (2 * f.val + s.val), by have := f.isLt; have := s.isLt; show _ < 27; omega⟩

abbrev barCell (c : Dev nD) : GSem nD τ sig := ((c : Thread nD τ), .reg barS)
abbrev sendCell (f : Fin 6) (s : Fin 2) (c : Dev nD) : GSem nD τ sig := ((c : Thread nD τ), .dma (sendS f s))
abbrev recvCell (f : Fin 6) (s : Fin 2) (c : Dev nD) : GSem nD τ sig := ((c : Thread nD τ), .dma (recvS f s))

set_option backward.proofsInPublic true in
/-- The message whose end is the `n`-th of twelve consecutive semaphores. -/
def msgOf (n : ℕ) : Fin 6 × Fin 2 := (⟨n / 2 % 6, Nat.mod_lt _ (by decide)⟩, ⟨n % 2, Nat.mod_lt _ (by decide)⟩)
theorem msgOf_eq (f : Fin 6) (s : Fin 2) : msgOf (2 * f.val + s.val) = (f, s) := by revert f s; decide

/-! ## What a raise hands over -/

/-- A slot of device `c`'s landing buffers, whatever it holds. -/
def room (f : Fin 6) (s : Fin 2) (c : Dev nD) : sProp 𝕄 :=
  iprop(∃ X, owns (c : Thread nD τ) (slotM (landM f) s) fullShare X)

/-- What the neighbour ahead of `c` (for half `s`) hands it at the start: the slots of its buffers that `c`
    sends into. -/
def barPay (s : Fin 2) (c : Dev nD) : sProp 𝕄 :=
  iprop(room 0 s (fore s c) ∗ room 1 (1 - s) (fore s c) ∗ room 2 (1 - s) (fore s c)
    ∗ room 3 s (fore s c) ∗ room 4 (1 - s) (fore s c) ∗ room 5 s (fore s c))

section Payloads

variable (x : Dev nD → Vec F S1536x768 .f32) (y : Dev nD → Vec F S768x1536 .f32)

/-- What message `f` of half `s` brings to `c`. -/
def arriveAt (f : Fin 6) (s : Fin 2) (c : Dev nD) : Vec F S384x768 .bf16 :=
  (![partialAt x y (back s c) (c, s), partialAt x y (fore s c) (back s c, s), relayAt x y s (fore s c),
     sentAt x y s (back s c), sentAt x y s (fore s c), sentAt x y s (back s (back s c))] : Fin 6 → Vec F S384x768 .bf16) f

/-- At the receiving end: the slot, filled. -/
def recvPay (f : Fin 6) (s : Fin 2) (c : Dev nD) : sProp 𝕄 :=
  owns (c : Thread nD τ) (slotM (landM f) s) fullShare (slot (arriveAt x y f s c))

/-- At the sending end: what was lent to the transfer, unchanged. A finished chunk is lent in two halves,
    one to each of its messages; a received one is lent by half, and read meanwhile. -/
def sendPay (f : Fin 6) (s : Fin 2) (c : Dev nD) : sProp 𝕄 :=
  (![owns (c : Thread nD τ) (chunkM (fore s c, s)) fullShare (partialAt x y c (fore s c, s)),
     owns (c : Thread nD τ) (chunkM (back s (back s c), s)) fullShare (partialAt x y c (back s (back s c), s)),
     owns (c : Thread nD τ) (slotM relayM s) fullShare (slot (relayAt x y s c)),
     owns (c : Thread nD τ) (slotM sentM s) fullShare.left (slot (sentAt x y s c)),
     owns (c : Thread nD τ) (slotM sentM s) fullShare.right (slot (sentAt x y s c)),
     owns (c : Thread nD τ) (slotM nearM s) fullShare.left (slot (sentAt x y s (back s c)))] : Fin 6 → sProp 𝕄) f

omit [FloatOps F] in
instance room_storable (f : Fin 6) (s : Fin 2) (c : Dev nD) : BI.Storable (upEmb : UEmb _ 𝕄) (room (F := F) f s c) := by
  unfold room; infer_instance
omit [FloatOps F] in
instance barPay_storable (s : Fin 2) (c : Dev nD) : BI.Storable (upEmb : UEmb _ 𝕄) (barPay (F := F) s c) := by
  unfold barPay; infer_instance
instance recvPay_storable (f : Fin 6) (s : Fin 2) (c : Dev nD) : BI.Storable (upEmb : UEmb _ 𝕄) (recvPay x y f s c) := by
  unfold recvPay; infer_instance
instance sendPay_storable (f : Fin 6) (s : Fin 2) (c : Dev nD) : BI.Storable (upEmb : UEmb _ 𝕄) (sendPay x y f s c) := by
  unfold sendPay
  fin_cases f <;> exact owns_storable _ _ _ _

/-! ## The schedule -/

/-- One round. A barrier cell has two duties of one unit, one for each neighbour; an end of a message one
    duty, of the message's size. -/
def Rd : Rounds.Schedule (GSem nD τ sig) (Fin 2) 𝕄 where
  duties g r := if r = 0 ∧ g.1.2 = .tc then
      (match g.2 with
        | .reg _ => Finset.univ
        | .dma q => if 3 ≤ q.val then {0} else ∅)
    else ∅
  unitless _ := False
  amount g _ _ := match g.2 with
    | .reg _ => 1
    | .dma _ => N
  payload g _ d := match g.2 with
    | .reg _ => barPay d g.1.1
    | .dma q => if q.val < 15 then sendPay x y (msgOf (q.val - 3)).1 (msgOf (q.val - 3)).2 g.1.1
        else recvPay x y (msgOf (q.val - 15)).1 (msgOf (q.val - 15)).2 g.1.1
  amount_pos g _ _ _ := by
    cases h : g.2 with
    | reg b => exact Nat.one_pos
    | dma q => exact N_pos

instance Rd_payload_storable (g : GSem nD τ sig) (r : ℕ) (d : Fin 2) :
    BI.Storable (upEmb : UEmb _ 𝕄) ((Rd x y).payload g r d) := by
  obtain ⟨t, sm⟩ := g
  cases sm with
  | reg b => exact barPay_storable _ _
  | dma q =>
    show BI.Storable upEmb (if q.val < 15 then _ else _)
    split
    · exact sendPay_storable x y _ _ _
    · exact recvPay_storable x y _ _ _

section Tables

variable (f : Fin 6) (s : Fin 2) (c : Dev nD)

theorem duties_bar : (Rd x y).duties (barCell c) 0 = Finset.univ := by
  dsimp only [Rd]; rw [if_pos ⟨rfl, rfl⟩]
theorem duties_send : (Rd x y).duties (sendCell f s c) 0 = {0} := by
  dsimp only [Rd]; rw [if_pos ⟨rfl, rfl⟩, if_pos (show 3 ≤ (sendS f s).val from Nat.le_add_right _ _)]
theorem duties_recv : (Rd x y).duties (recvCell f s c) 0 = {0} := by
  dsimp only [Rd]; rw [if_pos ⟨rfl, rfl⟩, if_pos (by unfold recvS; dsimp only; omega)]
theorem duties_later (g : GSem nD τ sig) : ∀ r, 1 ≤ r → (Rd x y).duties g r = ∅ := fun r hr => by
  dsimp only [Rd]; rw [if_neg fun h => by omega]

theorem amount_bar (d : Fin 2) : (Rd x y).amount (barCell c) 0 d = 1 := rfl
theorem amount_send (d : Fin 2) : (Rd x y).amount (sendCell f s c) 0 d = N := rfl
theorem amount_recv (d : Fin 2) : (Rd x y).amount (recvCell f s c) 0 d = N := rfl

theorem expect_bar : (Rd x y).expect (barCell c) 0 = 2 := by
  unfold Schedule.expect Schedule.amountOf
  rw [duties_bar, Finset.sum_congr rfl fun d _ => amount_bar x y c d, Finset.sum_const, Finset.card_univ, Fintype.card_fin, smul_eq_mul]
theorem expect_send : (Rd x y).expect (sendCell f s c) 0 = N := by
  unfold Schedule.expect Schedule.amountOf; rw [duties_send, Finset.sum_singleton, amount_send]
theorem expect_recv : (Rd x y).expect (recvCell f s c) 0 = N := by
  unfold Schedule.expect Schedule.amountOf; rw [duties_recv, Finset.sum_singleton, amount_recv]

theorem payload_bar (d : Fin 2) : (Rd x y).payload (barCell c) 0 d = barPay d c := rfl
theorem payload_send (d : Fin 2) : (Rd x y).payload (sendCell f s c) 0 d = sendPay x y f s c := by
  have h : (sendS f s).val = 3 + (2 * f.val + s.val) := rfl
  show (if (sendS f s).val < 15 then sendPay x y (msgOf ((sendS f s).val - 3)).1 (msgOf ((sendS f s).val - 3)).2 c else _) = _
  rw [if_pos (by rw [h]; omega), h, Nat.add_sub_cancel_left, msgOf_eq]
theorem payload_recv (d : Fin 2) : (Rd x y).payload (recvCell f s c) 0 d = recvPay x y f s c := by
  have h : (recvS f s).val = 15 + (2 * f.val + s.val) := rfl
  show (if (recvS f s).val < 15 then _ else recvPay x y (msgOf ((recvS f s).val - 15)).1 (msgOf ((recvS f s).val - 15)).2 c) = _
  rw [if_neg (by rw [h]; omega), h, Nat.add_sub_cancel_left, msgOf_eq]

theorem rest_bar : bigSep ((Rd x y).duties (barCell c) 0 \ ∅) (fun d => (Rd x y).payload (barCell c) 0 d)
    = iprop(barPay 0 c ∗ barPay 1 c) := by
  rw [Finset.sdiff_empty, duties_bar, bigSep_univ_eq_bigSepL [0, 1] (by decide) (by decide), bigSepL_cons_cons, bigSepL_singleton]
  rfl
theorem rest_send : bigSep ((Rd x y).duties (sendCell f s c) 0 \ ∅) (fun d => (Rd x y).payload (sendCell f s c) 0 d)
    = sendPay x y f s c := by
  rw [Finset.sdiff_empty, duties_send, bigSep_singleton, payload_send]
theorem rest_recv : bigSep ((Rd x y).duties (recvCell f s c) 0 \ ∅) (fun d => (Rd x y).payload (recvCell f s c) 0 d)
    = recvPay x y f s c := by
  rw [Finset.sdiff_empty, duties_recv, bigSep_singleton, payload_recv]

end Tables

end Payloads

/-! ## What a device owes; the levels -/

/-- The credit of messages still to be sent, the next one last. -/
def due (c : Dev nD) : List (Fin 6 × Fin 2) → CellTallies nD τ sig Unit
  | [] => 0
  | i :: l => due c l + tallyAt (recvCell i.1 i.2 (dest i.1 i.2 c)) () N

/-- The messages in the order a device sends them. -/
abbrev order : List (Fin 6 × Fin 2) :=
  [(0, 0), (0, 1), (1, 0), (1, 1), (2, 0), (2, 1), (3, 0), (4, 0), (3, 1), (4, 1), (5, 0), (5, 1)]

/-- At the start a device owes every message, and a unit to both neighbours. -/
def O₁ (c : Dev nD) : CellTallies nD τ sig Unit := due c order + tallyAt (barCell (back 1 c)) () 1
def O₀ (c : Dev nD) : CellTallies nD τ sig Unit := O₁ c + tallyAt (barCell (back 0 c)) () 1

def L (g : GSem nD τ sig) : Finset Unit := if g.1.2 = .tc then {()} else ∅

/-- The level of a message's receiving end. -/
def msgLv (f : Fin 6) : ℕ := (![2, 2, 3, 4, 4, 5] : Fin 6 → ℕ) f
def lv (g : GSem nD τ sig) (_ : Unit) : ℕ := match g.2 with
  | .reg _ => 1
  | .dma q => if q.val < 15 then 0 else msgLv (msgOf (q.val - 15)).1

theorem lv_bar (c : Dev nD) : lv (barCell c) () = 1 := rfl
theorem lv_recv (f : Fin 6) (s : Fin 2) (c : Dev nD) : lv (recvCell f s c) () = msgLv f := by
  have h : (recvS f s).val = 15 + (2 * f.val + s.val) := rfl
  show (if (recvS f s).val < 15 then 0 else msgLv (msgOf ((recvS f s).val - 15)).1) = _
  rw [if_neg (by rw [h]; omega), h, Nat.add_sub_cancel_left, msgOf_eq]
theorem msgLv_pos (f : Fin 6) : 1 < msgLv f := by revert f; decide

theorem L_of_ne (g : GSem nD τ sig) (h : g.1.2 ≠ .tc) : L g = ∅ := if_neg h
theorem L_tc (c : Dev nD) (sm : SemLoc sig) : L ((c : Thread nD τ), sm) = {()} := if_pos rfl

/-- What is owed on account of messages is owed to receiving ends of messages of the list. -/
theorem due_pos {c : Dev nD} {g : GSem nD τ sig} {u : Unit} : ∀ {l : List (Fin 6 × Fin 2)}, 0 < due c l g u →
    ∃ i ∈ l, g = recvCell i.1 i.2 (dest i.1 i.2 c)
  | [], h => absurd h (Nat.lt_irrefl 0)
  | i :: l, h => by
    unfold due at h
    rw [Pi.add_apply, Finsupp.add_apply, tallyAt_apply] at h
    by_cases hg : g = recvCell i.1 i.2 (dest i.1 i.2 c)
    · exact ⟨i, List.mem_cons_self, hg⟩
    · rw [if_neg fun h' => hg h'.1, Nat.add_zero] at h
      obtain ⟨i', hi', e⟩ := due_pos h
      exact ⟨i', List.mem_cons_of_mem _ hi', e⟩

theorem O₀_pos {c : Dev nD} {g : GSem nD τ sig} {u : Unit} (h : 0 < O₀ c g u) :
    (∃ i ∈ order, g = recvCell i.1 i.2 (dest i.1 i.2 c)) ∨ ∃ s : Fin 2, g = barCell (back s c) := by
  unfold O₀ O₁ at h
  rw [Pi.add_apply, Finsupp.add_apply, Pi.add_apply, Finsupp.add_apply, tallyAt_apply, tallyAt_apply] at h
  by_cases h0 : g = barCell (back 0 c)
  · exact Or.inr ⟨0, h0⟩
  by_cases h1 : g = barCell (back 1 c)
  · exact Or.inr ⟨1, h1⟩
  rw [if_neg (show ¬(g = barCell (back 1 c) ∧ u = ()) from fun h' => h1 h'.1),
    if_neg (show ¬(g = barCell (back 0 c) ∧ u = ()) from fun h' => h0 h'.1), Nat.add_zero] at h
  exact Or.inl (due_pos h)

/-- A device may wait on a cell that lies below every receiving end it owes. -/
theorem mayWait_due (c : Dev nD) (sm : SemLoc sig) (l : List (Fin 6 × Fin 2))
    (h : ∀ i ∈ l, lv ((c : Thread nD τ), sm) () < msgLv i.1) :
    (levAts L lv : sProp 𝕄) ⊢ MayWait (c : Thread nD τ) sm () (due c l) :=
  MayOwe.of_cut (L := L) (lev := lv) (lv ((c : Thread nD τ), sm) ())
    (fun p hp => by rw [Finset.mem_singleton.mp hp, L_tc]; exact Finset.mem_singleton_self _)
    (fun g u hg => by obtain ⟨i, -, rfl⟩ := due_pos hg; rw [L_tc]; exact Finset.mem_singleton_self _)
    (fun p hp => by rw [Finset.mem_singleton.mp hp])
    (fun g u hg => by obtain ⟨i, hi, rfl⟩ := due_pos hg; rw [lv_recv]; exact h i hi)

/-- A staging cell may be waited on whatever the device owes. -/
theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨i, -, rfl⟩ | ⟨s, rfl⟩ <;> (rw [L_tc]; exact Finset.mem_singleton_self _))
      (fun p hp => by
        rw [Finset.mem_singleton.mp hp]
        show (if q.val < 15 then 0 else _) ≤ 0
        rw [if_pos (by omega)])
      (fun g u hg => by
        rcases O₀_pos hg with ⟨i, -, rfl⟩ | ⟨s, rfl⟩
        · rw [lv_recv]; exact Nat.lt_of_le_of_lt (Nat.zero_le 1) (msgLv_pos _)
        · rw [lv_bar]; decide)
  · rw [MayWait_zero]; iintro -; iempintro

end Cert.Ring

end
-- ==== Proof.Rules.lean ====
/-
# Rules for loads and stores

Each lemma takes one load or store, of a memref owned at known contents, from what it needs to what it
leaves.
-/
module

public import proofs.«01_k».proof.Proof.Protocol
public import Idealize.ShloMosaic.Lib.Pipeline.Value

@[expose] public section

set_option maxRecDepth 16384

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-! ## Owned memrefs under loads and stores -/

section Mem

variable {α : Type} {sp : CoreSpace} {sh : Shape} {e : EltTy} {c : Dev nD}
  {m : Memref sig .tc sp sh e} {o o' size : Fin sh.rank → ℕ}
  {hin : ∀ a, o a + size a ≤ sh.size a} {hin' : ∀ a, o' a + size a ≤ sh.size a}

/-- A slice is owned through either of two equal offsets. -/
theorem owns_offset (ho : o = o') (q : PosShare TreeShare) (X : (⟨sh.rank, size⟩ : Shape).Idx → Elt F e) :
    (owns (c : Thread nD τ) (m.slice (Rect.unit o size hin) (fun _ => rfl)) q X : sProp 𝕄)
      = owns (c : Thread nD τ) (m.slice (Rect.unit o' size hin') (fun _ => rfl)) q X := by
  subst ho; rfl

/-- A load of a slice owned at `X` yields `X`. -/
theorem wp_load_slice {Q : α → sProp 𝕄} (ho : o = o') {q : PosShare TreeShare} {X : (⟨sh.rank, size⟩ : Shape).Idx → Elt F e}
    {hl : m.view.LoadsAt (Rect.unit o size hin).toLoadRect}
    {k : ((⟨sh.rank, size⟩ : Shape).Idx → Elt F e) → Prog (TpuEff nD τ sig (Elt F) Λ₀ .tc) α} :
    (owns (c : Thread nD τ) (m.slice (Rect.unit o' size hin') (fun _ => rfl)) q X : sProp 𝕄)
      ⊢ iprop((owns (c : Thread nD τ) (m.slice (Rect.unit o' size hin') (fun _ => rfl)) q X
            -∗ wp frame (wpE (defs₀ (F := F)) 𝒱₀ (c : Thread nD τ) none) Set.univ (k X) Q)
          -∗ wp frame (wpE (defs₀ (F := F)) 𝒱₀ (c : Thread nD τ) none) Set.univ
              (.op (.load m (Rect.unit o size hin).toLoadRect hl) k) Q) := by
  subst ho
  unfold owns
  iintro ⟨%f, %hf, H⟩ Hk
  iapply (wp_load_rect 𝒱₀ (c : Thread nD τ) none Set.univ (m := m) (r := Rect.unit o size hin)
    (S := (m.access (Rect.unit o size hin)).set) (Finset.Subset.refl _)) $$ H
  iintro H
  subst hf
  iapply Hk
  iexists f
  isplitr; · ipureintro; rfl
  iexact H

/-- A load of part of a memref owned at `v` yields that part of `v`. -/
theorem wp_load_part {Q : α → sProp 𝕄} (ho : o = o') {q : PosShare TreeShare} {v : sh.Idx → Elt F e}
    {hl : m.view.LoadsAt (Rect.unit o size hin).toLoadRect}
    {k : ((⟨sh.rank, size⟩ : Shape).Idx → Elt F e) → Prog (TpuEff nD τ sig (Elt F) Λ₀ .tc) α} :
    (owns (c : Thread nD τ) m q v : sProp 𝕄)
      ⊢ iprop((owns (c : Thread nD τ) m q v
            -∗ wp frame (wpE (defs₀ (F := F)) 𝒱₀ (c : Thread nD τ) none) Set.univ (k fun i => v ((Rect.unit o' size hin').emb i)) Q)
          -∗ wp frame (wpE (defs₀ (F := F)) 𝒱₀ (c : Thread nD τ) none) Set.univ
              (.op (.load m (Rect.unit o size hin).toLoadRect hl) k) Q) := by
  subst ho
  unfold owns
  iintro ⟨%f, %hf, H⟩ Hk
  iapply (wp_load_rect 𝒱₀ (c : Thread nD τ) none Set.univ (m := m) (r := Rect.unit o size hin)
    (S := m.view.set) (m.view.set_slice_subset _)) $$ H
  iintro H
  subst hf
  iapply Hk
  iexists f
  isplitr; · ipureintro; rfl
  iexact H

/-- A store over a slice leaves it owned at what was stored. -/
theorem wp_store_slice {Q : α → sProp 𝕄} (ho : o = o') {X w : (⟨sh.rank, size⟩ : Shape).Idx → Elt F e}
    {hx : (m.access (Rect.unit o size hin)).Stores Finset.univ}
    {hm : (Finset.univ : Finset (Rect.unit o size hin).shape.Idx) = Finset.univ ∨ ∀ a, (Rect.unit o size hin).stride a = 1}
    {k : PUnit → Prog (TpuEff nD τ sig (Elt F) Λ₀ .tc) α} :
    (owns (c : Thread nD τ) (m.slice (Rect.unit o' size hin') (fun _ => rfl)) fullShare X : sProp 𝕄)
      ⊢ iprop((owns (c : Thread nD τ) (m.slice (Rect.unit o' size hin') (fun _ => rfl)) fullShare w
            -∗ wp frame (wpE (defs₀ (F := F)) 𝒱₀ (c : Thread nD τ) none) Set.univ (k ⟨⟩) Q)
          -∗ wp frame (wpE (defs₀ (F := F)) 𝒱₀ (c : Thread nD τ) none) Set.univ
              (.op (.store m (Rect.unit o size hin) w Finset.univ hx hm) k) Q) := by
  subst ho
  unfold owns
  iintro ⟨%f, %hf, H⟩ Hk
  iapply (wp_store 𝒱₀ (c : Thread nD τ) none Set.univ (m := m) (r := Rect.unit o size hin) (Mk := Finset.univ)
    (S := (m.access (Rect.unit o size hin)).set) (View.setOn_subset_set _ _)) $$ H
  iintro H
  iapply Hk
  iexists ((m.access (Rect.unit o size hin)).write (Elt F) f w Finset.univ)
  isplitr; · ipureintro; exact View.read_write_univ _ _
  iexact H

end Mem

/-! ## A slot and its memref of a transfer -/

/-- What a slot holds, read as the transfer's memref. -/
theorem read_flat (b : Slots) (s : Fin 2) (f : b.view.ty.Contents (Elt F)) (V : Vec F S384x768 .bf16) :
    (slotM b s).view.read (Elt F) f = slot V ↔ (flatM b s).view.read (Elt F) f = V := by
  have h : (flatM b s).view.read (Elt F) f = shapeCast S384x768 ((slotM b s).view.read (Elt F) f) shapeCasts_S1x384x768_S384x768 := rfl
  rw [h]
  constructor
  · intro e
    rw [e]
    unfold slot k0_pay13
    exact shapeCast_shapeCast _ _ _
  · intro e
    rw [← e]
    unfold slot k0_pay13
    exact (shapeCast_shapeCast _ _ _).symm

theorem owns_flat (c : Dev nD) (b : Slots) (s : Fin 2) (q : PosShare TreeShare) (V : Vec F S384x768 .bf16) :
    (owns (c : Thread nD τ) (slotM b s) q (slot V) : sProp 𝕄) = owns (c : Thread nD τ) (flatM b s) q V := by
  have hset : (flatM b s).view.set = (slotM b s).view.set := Memref.set_view_squeeze _ _
  unfold owns
  congr 1
  funext f
  rw [hset, propext (read_flat b s f V)]

end Cert.Ring

end
-- ==== Proof.Steps.lean ====
/-
# Rules for the steps of the exchange

Each lemma takes one step of the exchange, or one short run of steps that the kernel repeats, from what
it needs to what it leaves: the signals and the wait of the barrier, the sending of a message, and
the waits at a message's two ends.
-/
module

public import proofs.«01_k».proof.Proof.Rules

@[expose] public section

set_option maxRecDepth 16384

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A transfer into any chunk-sized memref adds the same amount. -/
theorem credit_eq (b : Memref sig .tc .vmem S384x768 .bf16) : b.view.dmaCredit = N := rfl

/-! ## What the steps work from -/

/-- A device's cells: its barrier, and the sending (`false`) and receiving (`true`) end of each message. -/
abbrev Cell := Option (Bool × Fin 6 × Fin 2)
def csem : Cell → SemLoc sig
  | none => .reg barS
  | some (false, f, s) => .dma (sendS f s)
  | some (true, f, s) => .dma (recvS f s)
abbrev kcell (ck : Dev nD × Cell) : GSem nD τ sig := ((ck.1 : Thread nD τ), csem ck.2)

/-- Credit for the messages `l` still owed. -/
def owing (c : Dev nD) (l : List (Fin 6 × Fin 2)) : sProp 𝕄 := iprop(∃ W, owes (c : Thread nD τ) (due c l) W)
/-- A message not yet sent; -/
def pending (f : Fin 6) (s : Fin 2) (c : Dev nD) : sProp 𝕄 :=
  iprop(atPos ER (sendCell f s c) 0 ∅ 0 ∗ dutyTok ER (sendCell f s c) 0 0 ∗ dutyTok ER (recvCell f s (dest f s c)) 0 0)
/-- sent, and its buffer not yet returned; -/
def inFlight (f : Fin 6) (s : Fin 2) (c : Dev nD) : sProp 𝕄 :=
  iprop(atPos ER (sendCell f s c) 0 ∅ 0 ∗ cred (tallyAt (sendCell f s c) () N))
/-- a message to be received. -/
def awaited (f : Fin 6) (s : Fin 2) (c : Dev nD) : sProp 𝕄 :=
  iprop(atPos ER (recvCell f s c) 0 ∅ 0 ∗ cred (tallyAt (recvCell f s c) () N))

section Steps

variable (x : Dev nD → Vec F S1536x768 .f32) (y : Dev nD → Vec F S768x1536 .f32) (K : Dev nD × Cell → ℕ)

/-- What every device knows throughout: all cells' invariants, that each has reached its round, the levels. -/
def records : sProp 𝕄 :=
  iprop((bigSep Finset.univ fun ck : Dev nD × Cell => cellInv ER (Rd x y) (K ck) (kcell ck))
    ∗ (bigSep Finset.univ fun ck : Dev nD × Cell => reached ER (kcell ck) 0) ∗ levAts L lv)

instance records_persistent : BI.Persistent (records x y K) := by unfold records; infer_instance

theorem records_inv (ck : Dev nD × Cell) : records x y K ⊢ cellInv ER (Rd x y) (K ck) (kcell ck) := by
  have h : (bigSep Finset.univ fun ck : Dev nD × Cell => (cellInv ER (Rd x y) (K ck) (kcell ck) : sProp 𝕄))
      ⊢ cellInv ER (Rd x y) (K ck) (kcell ck) := bigSep_elim (Finset.mem_univ ck)
  unfold records
  iintro ⟨#H, -, -⟩
  iapply h; iexact H
theorem records_reached (ck : Dev nD × Cell) : records x y K ⊢ reached ER (kcell ck) 0 := by
  have h : (bigSep Finset.univ fun ck : Dev nD × Cell => (reached ER (kcell ck) 0 : sProp 𝕄)) ⊢ reached ER (kcell ck) 0 :=
    bigSep_elim (Finset.mem_univ ck)
  unfold records
  iintro ⟨-, #H, -⟩
  iapply h; iexact H
theorem records_levels : records x y K ⊢ levAts L lv := by
  unfold records
  iintro ⟨-, -, #H⟩
  iexact H

/-! ## The barrier -/

/-- A signal to a neighbour hands it the device's landing slots that the neighbour sends into. -/
theorem wp_hello (s : Fin 2) (c : Dev nD) {n : Dev nD} (hn : n = back s c) {O O' : CellTallies nD τ sig Unit}
    (hO : O = O' + tallyAt (barCell (back s c)) () 1) {k' : ℕ} (hk : k' = 1)
    {α : Type} {Q : α → sProp 𝕄} {k : PUnit → Prog (TpuEff nD τ sig (Elt F) Λ₀ .tc) α} :
    iprop(records x y K ∗ (∃ W, owes (c : Thread nD τ) O W) ∗ dutyTok ER (barCell (back s c)) 0 s
        ∗ room 0 s c ∗ room 1 (1 - s) c ∗ room 2 (1 - s) c ∗ room 3 s c ∗ room 4 (1 - s) c ∗ room 5 s c)
      ⊢ iprop(((∃ W, owes (c : Thread nD τ) O' W) -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (n : Thread nD τ) barS k') k) Q) := by
  subst hn
  subst hk
  iintro ⟨#HK, ⟨%W, HO⟩, Htok, H0, H1, H2, H3, H4, H5⟩ Hk
  iapply (Rounds.wp_signal 𝒱₀ ER (Rd x y) (c : Thread nD τ) none (dst := (back s c : Thread nD τ)) (κ := K (back s c, none))
      (d := s) (by rw [duties_bar]; exact Finset.mem_univ _) (amount_bar x y (back s c) s) () O' hO)
    $$ [HO Htok H0 H1 H2 H3 H4 H5]
  · isplitr; · iapply (records_inv x y K (back s c, none)); iexact HK
    isplitl [HO]; · iexact HO
    isplitl [Htok]; · iexact Htok
    isplitl
    · rw [payload_bar]; unfold barPay; rw [fore_back]
      isplitl [H0]; · iexact H0
      isplitl [H1]; · iexact H1
      isplitl [H2]; · iexact H2
      isplitl [H3]; · iexact H3
      isplitl [H4]; · iexact H4
      iexact H5
    · iapply (records_reached x y K (back s c, none)); iexact HK
  iintro HO
  iapply Hk
  iexists W
  iexact HO

/-- The slots of its neighbours' buffers that a device sends into. -/
def roomsAhead (c : Dev nD) : sProp 𝕄 :=
  iprop(room 0 0 (dest 0 0 c) ∗ room 0 1 (dest 0 1 c) ∗ room 1 0 (dest 1 0 c) ∗ room 1 1 (dest 1 1 c)
    ∗ room 2 0 (dest 2 0 c) ∗ room 2 1 (dest 2 1 c) ∗ room 3 0 (dest 3 0 c) ∗ room 4 0 (dest 4 0 c)
    ∗ room 3 1 (dest 3 1 c) ∗ room 4 1 (dest 4 1 c) ∗ room 5 0 (dest 5 0 c) ∗ room 5 1 (dest 5 1 c))

theorem roomsAhead_intro (c : Dev nD) : iprop(barPay (F := F) 0 c ∗ barPay 1 c) ⊢ roomsAhead c := by
  unfold barPay roomsAhead
  iintro ⟨⟨A0, A1, A2, A3, A4, A5⟩, B0, B1, B2, B3, B4, B5⟩
  isplitl [A0]; · iexact A0
  isplitl [B0]; · iexact B0
  isplitl [B1]; · iexact B1
  isplitl [A1]; · iexact A1
  isplitl [B2]; · iexact B2
  isplitl [A2]; · iexact A2
  isplitl [A3]; · iexact A3
  isplitl [B4]; · iexact B4
  isplitl [B3]; · iexact B3
  isplitl [A4]; · iexact A4
  isplitl [A5]; · iexact A5
  iexact B5

/-- Having heard both neighbours, a device holds the slots it sends into. -/
theorem wp_heard (c : Dev nD) {k' : ℕ} (hk : k' = 2)
    {α : Type} {Q : α → sProp 𝕄} {k : PUnit → Prog (TpuEff nD τ sig (Elt F) Λ₀ .tc) α} :
    iprop(records x y K ∗ owing c order ∗ cred (tallyAt (barCell c) () 2) ∗ atPos ER (barCell c) 0 ∅ 0)
      ⊢ iprop(((owing c order ∗ roomsAhead c ∗ semVal (barCell c) 0)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semWait barS k') k) Q) := by
  subst hk
  unfold owing
  iintro ⟨#HK, ⟨%W, HO⟩, Hc, Hat⟩ Hk
  iapply (Rounds.wp_wait_rest_token 𝒱₀ ER (Rd x y) (c : Thread nD τ) none (κ := K (c, none))
      (wpE_semWait_eq 𝒱₀ (c : Thread nD τ) none Set.univ) (Set.mem_univ _) () (O := due c order) (W := W) (R := 0) (m := 0) (T := ∅)
      (by rw [expect_bar])) $$ [Hc HO Hat]
  · isplitr; · iapply (records_inv x y K (c, none)); iexact HK
    isplitl [Hc]; · iexact Hc
    isplitl [HO]; · iexact HO
    isplitr
    · iapply (mayWait_due c (.reg barS) order (fun i _ => msgLv_pos i.1)); iapply (records_levels x y K); iexact HK
    iexact Hat
  iintro ⟨HO, Hat, -, Hpay⟩
  imod (Rounds.cell_close ER (Rd x y) (Set.mem_univ (K (c, none))) (fun h => h) (R := 0 + 1) (duties_later x y (barCell c))) $$ [Hat] with Hz
  · isplitr; · iapply (records_inv x y K (c, none)); iexact HK
    iexact Hat
  iapply Hk
  isplitl [HO]; · iexists _; iexact HO
  isplitl [Hpay]
  · iapply (roomsAhead_intro c); iapply (Entails.of_eq (rest_bar x y c)); iexact Hpay
  iexact Hz

/-! ## Messages -/

/-- Sending a message lends its source to the transfer, and fills the slot it goes to. -/
theorem wp_message (f : Fin 6) (s : Fin 2) (c : Dev nD) (l : List (Fin 6 × Fin 2)) {n : Dev nD} (hn : n = dest f s c)
    {src : Memref sig .tc .vmem S384x768 .bf16} {q : PosShare TreeShare} {P : sProp 𝕄} (hP : P = sendPay x y f s c)
    (hsend : sendPay x y f s c = owns (c : Thread nD τ) src q (arriveAt x y f s (dest f s c)))
    {hsc : (flatM (landM f) s).view.ref.isScScratch = false} {hsrc : src.view.WordExact} {hdst : (flatM (landM f) s).view.WordExact}
    {hsem : DmaTarget.Typed .vmem (.dma (recvS f s)) (.remote (Dev.tc n : Thread nD τ) (flatM (landM f) s) (.dma (sendS f s)) hsc)}
    {α : Type} {Q : α → sProp 𝕄} {k : PUnit → Prog (TpuEff nD τ sig (Elt F) Λ₀ .tc) α} :
    iprop(records x y K ∗ owing c ((f, s) :: l) ∗ pending f s c ∗ P ∗ room f s (dest f s c))
      ⊢ iprop(((owing c l ∗ inFlight f s c) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) (flatM (landM f) s) (.dma (sendS f s)) hsc) (.dma (recvS f s)) hsrc hdst hsem) k) Q) := by
  subst hn
  subst hP
  unfold owing pending room inFlight
  iintro ⟨#HK, ⟨%W, HO⟩, ⟨Hat, Ht1, Ht2⟩, Hsrc, %X, Hdst⟩ Hk
  ihave Hsrc' := (Entails.of_eq hsend) $$ Hsrc
  unfold owns
  icases Hsrc' with ⟨%fs, %hfs, Hsrc⟩
  icases Hdst with ⟨%fd, %hfd, Hdst⟩
  have hset : (flatM (landM f) s).view.set = (slotM (landM f) s).view.set := Memref.set_view_squeeze _ _
  rw [← hset]
  iapply (Rounds.wp_send_pointsTo 𝒱₀ ER (Rd x y) (c : Thread nD τ) none (κ₁ := K (c, some (false, f, s))) (κ₂ := K (dest f s c, some (true, f, s)))
    (c' := (dest f s c : Thread nD τ)) (src := src) (dst := flatM (landM f) s) (sS := .dma (sendS f s)) (sem := .dma (recvS f s))
    (r₁ := 0) (r₂ := 0) (d₁ := 0) (d₂ := 0) (fs := fs) (fd := fd) (q := q)
    (by rw [duties_send]; exact Finset.mem_singleton_self _) (by rw [duties_recv]; exact Finset.mem_singleton_self _)
    () () N (credit_eq (flatM (landM f) s)) (amount_send x y f s c 0) (amount_recv x y f s (dest f s c) 0) (due c l) rfl (W := W)
    (by
      rw [payload_send, hsend, ← hfs]
      exact owns_intro _ _ _ _)
    (by
      rw [payload_recv, hfs]
      unfold recvPay
      rw [owns_flat]
      unfold owns
      iintro H
      iexists ((flatM (landM f) s).view.write (Elt F) fd (arriveAt x y f s (dest f s c)) Finset.univ)
      isplitr
      · ipureintro; exact View.read_write_univ _ _
      iexact H)) $$ [Hsrc Hdst HO Ht1 Ht2]
  · isplitr; · iapply (records_inv x y K (c, some (false, f, s))); iexact HK
    isplitr; · iapply (records_inv x y K (dest f s c, some (true, f, s))); iexact HK
    isplitl [Hsrc]; · iexact Hsrc
    isplitl [Hdst]; · iexact Hdst
    isplitl [HO]; · iexact HO
    isplitl [Ht1]; · iexact Ht1
    isplitr; · iapply (records_reached x y K (c, some (false, f, s))); iexact HK
    isplitl [Ht2]; · iexact Ht2
    iapply (records_reached x y K (dest f s c, some (true, f, s))); iexact HK
  iintro ⟨Hc, HO⟩
  iapply Hk
  isplitl [HO]; · iexists W; iexact HO
  isplitl [Hat]; · iexact Hat
  iexact Hc

/-- A message received: its slot, filled. -/
theorem wp_received (f : Fin 6) (s : Fin 2) (c : Dev nD) (l : List (Fin 6 × Fin 2)) (hl : ∀ i ∈ l, msgLv f < msgLv i.1)
    {sp' : Space} {s' : Shape} {e' : EltTy} {src : Memref sig .tc sp' s' e'} {dst : Memref sig .tc .vmem S384x768 .bf16}
    {hsrc : src.view.WordExact} {hdst : dst.view.WordExact}
    {α : Type} {Q : α → sProp 𝕄} {k : PUnit → Prog (TpuEff nD τ sig (Elt F) Λ₀ .tc) α} :
    iprop(records x y K ∗ owing c l ∗ awaited f s c)
      ⊢ iprop(((owing c l ∗ owns (c : Thread nD τ) (slotM (landM f) s) fullShare (slot (arriveAt x y f s c)) ∗ semVal (recvCell f s c) 0)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (recvS f s) src dst hsrc hdst) k) Q) := by
  unfold owing awaited
  iintro ⟨#HK, ⟨%W, HO⟩, Hat, Hc⟩ Hk
  iapply (Rounds.wp_wait_rest_token 𝒱₀ ER (Rd x y) (c : Thread nD τ) none (κ := K (c, some (true, f, s)))
      (wpE_waitDma2_eq 𝒱₀ (c : Thread nD τ) none Set.univ) (Set.mem_univ _) () (O := due c l) (W := W) (R := 0) (m := 0) (T := ∅)
      (by rw [Nat.zero_add, expect_recv, credit_eq])) $$ [Hc HO Hat]
  · isplitr; · iapply (records_inv x y K (c, some (true, f, s))); iexact HK
    isplitl [Hc]; · iexact Hc
    isplitl [HO]; · iexact HO
    isplitr
    · iapply (mayWait_due c (.dma (recvS f s)) l (by rw [lv_recv]; exact hl)); iapply (records_levels x y K); iexact HK
    iexact Hat
  iintro ⟨HO, Hat, -, Hpay⟩
  imod (Rounds.cell_close ER (Rd x y) (Set.mem_univ (K (c, some (true, f, s)))) (fun h => h) (R := 0 + 1) (duties_later x y (recvCell f s c))) $$ [Hat] with Hz
  · isplitr; · iapply (records_inv x y K (c, some (true, f, s))); iexact HK
    iexact Hat
  iapply Hk
  isplitl [HO]; · iexists _; iexact HO
  isplitl [Hpay]
  · ihave Hp := (Entails.of_eq (rest_recv x y f s c)) $$ Hpay
    unfold recvPay; iexact Hp
  iexact Hz

/-- A message delivered: what was lent to it is the sender's again. -/
theorem wp_delivered (f : Fin 6) (s : Fin 2) (c : Dev nD) {P : sProp 𝕄} (hP : P = sendPay x y f s c)
    {sp' : Space} {s' : Shape} {e' : EltTy} {src : Memref sig .tc sp' s' e'} {dst : Memref sig .tc .vmem S384x768 .bf16}
    {hsrc : src.view.WordExact} {hdst : dst.view.WordExact}
    {α : Type} {Q : α → sProp 𝕄} {k : PUnit → Prog (TpuEff nD τ sig (Elt F) Λ₀ .tc) α} :
    iprop(records x y K ∗ owing c [] ∗ inFlight f s c)
      ⊢ iprop(((owing c [] ∗ P ∗ semVal (sendCell f s c) 0)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (sendS f s) src dst hsrc hdst) k) Q) := by
  subst hP
  unfold owing inFlight
  iintro ⟨#HK, ⟨%W, HO⟩, Hat, Hc⟩ Hk
  iapply (Rounds.wp_wait_rest_token 𝒱₀ ER (Rd x y) (c : Thread nD τ) none (κ := K (c, some (false, f, s)))
      (wpE_waitDma2_eq 𝒱₀ (c : Thread nD τ) none Set.univ) (Set.mem_univ _) () (O := due c []) (W := W) (R := 0) (m := 0) (T := ∅)
      (by rw [Nat.zero_add, expect_send, credit_eq])) $$ [Hc HO Hat]
  · isplitr; · iapply (records_inv x y K (c, some (false, f, s))); iexact HK
    isplitl [Hc]; · iexact Hc
    isplitl [HO]; · iexact HO
    isplitr
    · iapply (mayWait_due c (.dma (sendS f s)) [] (fun i h => absurd h List.not_mem_nil)); iapply (records_levels x y K); iexact HK
    iexact Hat
  iintro ⟨HO, Hat, -, Hpay⟩
  imod (Rounds.cell_close ER (Rd x y) (Set.mem_univ (K (c, some (false, f, s)))) (fun h => h) (R := 0 + 1) (duties_later x y (sendCell f s c))) $$ [Hat] with Hz
  · isplitr; · iapply (records_inv x y K (c, some (false, f, s))); iexact HK
    iexact Hat
  iapply Hk
  isplitl [HO]; · iexists _; iexact HO
  isplitl [Hpay]
  · iapply (Entails.of_eq (rest_send x y f s c)); iexact Hpay
  iexact Hz

end Steps

end Cert.Ring

end
-- ==== Proof.Work.lean ====
/-
# The work between messages

The runs of loads and stores a device repeats, each as one step: narrowing a factor's block, forming a
partial product, forming a sum to pass on, finishing a chunk, and copying a received chunk to the answer.
-/
module

public import proofs.«01_k».proof.Proof.Rules

@[expose] public section

set_option maxRecDepth 16384

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The kernel's `load` through a rectangle at `o`; -/
abbrev loadAt {α : Type} {sp : CoreSpace} {sh : Shape} {e : EltTy} (m : Memref sig .tc sp sh e) (o size : Fin sh.rank → ℕ)
    (hin : ∀ a, o a + size a ≤ sh.size a) (hl : m.view.LoadsAt (Rect.unit o size hin).toLoadRect)
    (k : ((⟨sh.rank, size⟩ : Shape).Idx → Elt F e) → Prog (TpuEff nD τ sig (Elt F) Λ₀ .tc) α) :
    Prog (TpuEff nD τ sig (Elt F) Λ₀ .tc) α :=
  .op (.load m (Rect.unit o size hin).toLoadRect hl) k
/-- its `store`. -/
abbrev storeAt {α : Type} {sp : CoreSpace} {sh : Shape} {e : EltTy} (m : Memref sig .tc sp sh e) (o size : Fin sh.rank → ℕ)
    (hin : ∀ a, o a + size a ≤ sh.size a) (w : (⟨sh.rank, size⟩ : Shape).Idx → Elt F e)
    (hx : (m.access (Rect.unit o size hin)).Stores Finset.univ)
    (hm : (Finset.univ : Finset (Rect.unit o size hin).shape.Idx) = Finset.univ ∨ ∀ a, (Rect.unit o size hin).stride a = 1)
    (k : PUnit → Prog (TpuEff nD τ sig (Elt F) Λ₀ .tc) α) : Prog (TpuEff nD τ sig (Elt F) Λ₀ .tc) α :=
  .op (.store m (Rect.unit o size hin) w Finset.univ hx hm) k

/-! ## A whole buffer -/

section Whole

variable {α : Type} {sp sp' : CoreSpace} {sh : Shape} {e e' : EltTy} {c : Dev nD}
  {o : Fin sh.rank → ℕ} {hin : ∀ a, o a + sh.size a ≤ sh.size a}

/-- The rectangle from the origin of the array's own size selects each index itself. -/
theorem emb_origin (ho : o = fun _ => 0) (i : (Rect.unit o sh.size hin).shape.Idx) : (Rect.unit o sh.size hin).emb i = i := by
  subst ho
  funext a
  refine Fin.ext ((Rect.emb_apply _ _ _).trans ?_)
  show 0 + 1 * (i a : ℕ) = (i a : ℕ)
  omega

/-- A block is loaded, and its narrowed form stored over a buffer. -/
theorem wp_narrow (ho : o = fun _ => 0) {m : Memref sig .tc sp sh e} {b : Memref sig .tc sp' sh e'}
    {q : PosShare TreeShare} {v : sh.Idx → Elt F e} {pay : (sh.Idx → Elt F e) → sh.Idx → Elt F e'}
    {hl : m.view.LoadsAt (Rect.unit o sh.size hin).toLoadRect} {hl' : b.view.LoadsAt (Rect.unit o sh.size hin).toLoadRect}
    {hx : (b.access (Rect.unit o sh.size hin)).Stores Finset.univ}
    {hm : (Finset.univ : Finset (Rect.unit o sh.size hin).shape.Idx) = Finset.univ ∨ ∀ a, (Rect.unit o sh.size hin).stride a = 1}
    {Q : α → sProp 𝕄} {k : PUnit → Prog (TpuEff nD τ sig (Elt F) Λ₀ .tc) α} :
    (iprop(owns (c : Thread nD τ) m q v ∗ ∃ X, owns (c : Thread nD τ) b fullShare X) : sProp 𝕄)
      ⊢ iprop(((owns (c : Thread nD τ) m q v ∗ owns (c : Thread nD τ) b fullShare (pay v))
            -∗ wp frame (wpE (defs₀ (F := F)) 𝒱₀ (c : Thread nD τ) none) Set.univ (k ⟨⟩) Q)
          -∗ wp frame (wpE (defs₀ (F := F)) 𝒱₀ (c : Thread nD τ) none) Set.univ
              (loadAt m o sh.size hin hl fun v => loadAt b o sh.size hin hl' fun _ => storeAt b o sh.size hin (pay v) hx hm k) Q) := by
  iintro ⟨Hm, %X, Hb⟩ Hk
  iapply (wp_load_part (rfl : o = o) (hin' := hin)) $$ Hm
  iintro Hm
  have e : pay (fun i => v ((Rect.unit o sh.size hin).emb i)) = pay v := congrArg pay (funext fun i => congrArg v (emb_origin ho i))
  iapply (wp_load_part (rfl : o = o) (hin' := hin)) $$ Hb
  iintro Hb
  unfold owns
  icases Hb with ⟨%f, %hf, Hb⟩
  iapply (wp_store 𝒱₀ (c : Thread nD τ) none Set.univ (m := b) (r := Rect.unit o sh.size hin) (Mk := Finset.univ)
    (S := b.view.set) ((View.setOn_subset_set _ _).trans (b.view.set_slice_subset _))) $$ Hb
  iintro Hb
  iapply Hk
  isplitl [Hm]; · iexact Hm
  iexists ((b.access (Rect.unit o sh.size hin)).write (Elt F) f (pay fun i => v ((Rect.unit o sh.size hin).emb i)) Finset.univ)
  isplitr
  · ipureintro
    have h := View.read_write_univ (v := b.access (Rect.unit o sh.size hin)) (Val := Elt F) f (pay fun i => v ((Rect.unit o sh.size hin).emb i))
    funext i
    refine Eq.trans ?_ ((congrFun h i).trans (congrFun e i))
    exact congrArg (b.view.read (Elt F) _) (emb_origin ho i).symm
  iexact Hb

end Whole

/-! ## A slice -/

section Slice

variable {α : Type} {sp : CoreSpace} {sh : Shape} {e : EltTy} {c : Dev nD}
  {m : Memref sig .tc sp sh e} {o o' size : Fin sh.rank → ℕ}
  {hin : ∀ a, o a + size a ≤ sh.size a} {hin' : ∀ a, o' a + size a ≤ sh.size a}

/-- A store over a slice, whatever it held. The kernel first loads what it held, to no purpose. -/
theorem wp_put (ho : o = o') {w : (⟨sh.rank, size⟩ : Shape).Idx → Elt F e}
    {hl : m.view.LoadsAt (Rect.unit o size hin).toLoadRect} {hx : (m.access (Rect.unit o size hin)).Stores Finset.univ}
    {hm : (Finset.univ : Finset (Rect.unit o size hin).shape.Idx) = Finset.univ ∨ ∀ a, (Rect.unit o size hin).stride a = 1}
    {Q : α → sProp 𝕄} {k : PUnit → Prog (TpuEff nD τ sig (Elt F) Λ₀ .tc) α} :
    (iprop(∃ X, owns (c : Thread nD τ) (m.slice (Rect.unit o' size hin') (fun _ => rfl)) fullShare X) : sProp 𝕄)
      ⊢ iprop((owns (c : Thread nD τ) (m.slice (Rect.unit o' size hin') (fun _ => rfl)) fullShare w
            -∗ wp frame (wpE (defs₀ (F := F)) 𝒱₀ (c : Thread nD τ) none) Set.univ (k ⟨⟩) Q)
          -∗ wp frame (wpE (defs₀ (F := F)) 𝒱₀ (c : Thread nD τ) none) Set.univ
              (loadAt m o size hin hl fun _ => storeAt m o size hin w hx hm k) Q) := by
  iintro ⟨%X, H⟩ Hk
  iapply (wp_load_slice ho) $$ H
  iintro H
  iapply (wp_store_slice ho) $$ H
  iexact Hk

end Slice

section Block

variable {α : Type} (x : Dev nD → Vec F S1536x768 .f32) (y : Dev nD → Vec F S768x1536 .f32) (c : Dev nD)

/-- A partial product: a chunk of the first factor times a half of the second, stored in its place. -/
theorem wp_product (j : Dev nD) (s : Fin 2) {oa : Fin 2 → ℕ} (ha : oa = offA j) {ob : Fin 2 → ℕ} (hb : ob = offB s)
    {oc : Fin 2 → ℕ} (hc : oc = offC (j, s))
    {pay : Vec F S384x768 .bf16 → Vec F S768x768 .bf16 → Vec F S384x768 .bf16} (hpay : pay = k0_pay3)
    {ia : ∀ a, oa a + S384x768.size a ≤ S1536x768.size a} {ib : ∀ a, ob a + S768x768.size a ≤ S768x1536.size a}
    {ic : ∀ a, oc a + S384x768.size a ≤ S1536x1536.size a}
    {hla : aM.view.LoadsAt (Rect.unit (s := S1536x768) oa S384x768.size ia).toLoadRect} {hlb : bM.view.LoadsAt (Rect.unit (s := S768x1536) ob S768x768.size ib).toLoadRect}
    {hlc : pM.view.LoadsAt (Rect.unit (s := S1536x1536) oc S384x768.size ic).toLoadRect} {hx : (pM.access (Rect.unit (s := S1536x1536) oc S384x768.size ic)).Stores Finset.univ}
    {hm : (Finset.univ : Finset (Rect.unit (s := S1536x1536) oc S384x768.size ic).shape.Idx) = Finset.univ ∨ ∀ a, (Rect.unit (s := S1536x1536) oc S384x768.size ic).stride a = 1}
    {Q : α → sProp 𝕄} {k : PUnit → Prog (TpuEff nD τ sig (Elt F) Λ₀ .tc) α} :
    (iprop(owns (c : Thread nD τ) aM fullShare (k0_pay1 (x c)) ∗ owns (c : Thread nD τ) bM fullShare (k0_pay2 (y c))
        ∗ ∃ X, owns (c : Thread nD τ) (chunkM (j, s)) fullShare X) : sProp 𝕄)
      ⊢ iprop(((owns (c : Thread nD τ) aM fullShare (k0_pay1 (x c)) ∗ owns (c : Thread nD τ) bM fullShare (k0_pay2 (y c))
            ∗ owns (c : Thread nD τ) (chunkM (j, s)) fullShare (partialAt x y c (j, s)))
            -∗ wp frame (wpE (defs₀ (F := F)) 𝒱₀ (c : Thread nD τ) none) Set.univ (k ⟨⟩) Q)
          -∗ wp frame (wpE (defs₀ (F := F)) 𝒱₀ (c : Thread nD τ) none) Set.univ
              (loadAt aM oa S384x768.size ia hla fun v => loadAt bM ob S768x768.size ib hlb fun w =>
                loadAt pM oc S384x768.size ic hlc fun _ => storeAt pM oc S384x768.size ic (pay v w) hx hm k) Q) := by
  subst hpay
  iintro ⟨Ha, Hb, Hp⟩ Hk
  iapply (wp_load_part ha (hin' := offA_inb j)) $$ Ha
  iintro Ha
  iapply (wp_load_part hb (hin' := offB_inb s)) $$ Hb
  iintro Hb
  iapply (wp_put (m := pM) hc (hin' := offC_inb (j, s))) $$ [Hp]
  · iexact Hp
  iintro Hp
  iapply Hk
  isplitl [Ha]; · iexact Ha
  isplitl [Hb]; · iexact Hb
  iexact Hp

/-- A sum to pass on: what message 1 brought, added to the device's own partial product. -/
theorem wp_relay (s : Fin 2) {os : Fin 3 → ℕ} (hs : os = offS s) {oc : Fin 2 → ℕ} (hc : oc = offC (back s c, s))
    {pay : Vec F S1x384x768 .bf16 → Vec F S384x768 .bf16 → Vec F S1x384x768 .bf16} (hpay : pay = fun v w => slot (k0_pay12 v w))
    {is : ∀ a, os a + S1x384x768.size a ≤ S2x384x768.size a} {ic : ∀ a, oc a + S384x768.size a ≤ S1536x1536.size a}
    {hl : (landM 1).view.LoadsAt (Rect.unit (s := S2x384x768) os S1x384x768.size is).toLoadRect} {hlc : pM.view.LoadsAt (Rect.unit (s := S1536x1536) oc S384x768.size ic).toLoadRect}
    {hlr : relayM.view.LoadsAt (Rect.unit (s := S2x384x768) os S1x384x768.size is).toLoadRect} {hx : (relayM.access (Rect.unit (s := S2x384x768) os S1x384x768.size is)).Stores Finset.univ}
    {hm : (Finset.univ : Finset (Rect.unit (s := S2x384x768) os S1x384x768.size is).shape.Idx) = Finset.univ ∨ ∀ a, (Rect.unit (s := S2x384x768) os S1x384x768.size is).stride a = 1}
    {Q : α → sProp 𝕄} {k : PUnit → Prog (TpuEff nD τ sig (Elt F) Λ₀ .tc) α} :
    (iprop(owns (c : Thread nD τ) (slotM (landM 1) s) fullShare (slot (arriveAt x y 1 s c))
        ∗ owns (c : Thread nD τ) (chunkM (back s c, s)) fullShare (partialAt x y c (back s c, s))
        ∗ ∃ X, owns (c : Thread nD τ) (slotM relayM s) fullShare X) : sProp 𝕄)
      ⊢ iprop(((owns (c : Thread nD τ) (slotM (landM 1) s) fullShare (slot (arriveAt x y 1 s c))
            ∗ owns (c : Thread nD τ) (chunkM (back s c, s)) fullShare (partialAt x y c (back s c, s))
            ∗ owns (c : Thread nD τ) (slotM relayM s) fullShare (slot (relayAt x y s c)))
            -∗ wp frame (wpE (defs₀ (F := F)) 𝒱₀ (c : Thread nD τ) none) Set.univ (k ⟨⟩) Q)
          -∗ wp frame (wpE (defs₀ (F := F)) 𝒱₀ (c : Thread nD τ) none) Set.univ
              (loadAt (landM 1) os S1x384x768.size is hl fun v => loadAt pM oc S384x768.size ic hlc fun w =>
                loadAt relayM os S1x384x768.size is hlr fun _ => storeAt relayM os S1x384x768.size is (pay v w) hx hm k) Q) := by
  subst hpay
  iintro ⟨Hl, Hp, Hr⟩ Hk
  iapply (wp_load_slice hs (hin' := offS_inb s)) $$ Hl
  iintro Hl
  iapply (wp_load_slice hc (hin' := offC_inb (back s c, s))) $$ Hp
  iintro Hp
  iapply (wp_put (m := relayM) hs (hin' := offS_inb s)) $$ [Hr]
  · iexact Hr
  iintro Hr
  iapply Hk
  isplitl [Hl]; · iexact Hl
  isplitl [Hp]; · iexact Hp
  iexact Hr

/-- A chunk finished: the device's own partial product and what messages 0 and 2 brought, added up and
    narrowed for sending. The program goes on with the three. -/
theorem wp_finish (s : Fin 2) {os : Fin 3 → ℕ} (hs : os = offS s) {oc : Fin 2 → ℕ} (hc : oc = offC (c, s))
    {pay : Vec F S384x768 .bf16 → Vec F S1x384x768 .bf16 → Vec F S1x384x768 .bf16 → Vec F S1x384x768 .bf16}
    (hpay : pay = fun u v w => slot (truncf .bf16 (k0_pay16 u v w) bitsLt_bf16_f32))
    {is : ∀ a, os a + S1x384x768.size a ≤ S2x384x768.size a} {ic : ∀ a, oc a + S384x768.size a ≤ S1536x1536.size a}
    {hlc : pM.view.LoadsAt (Rect.unit (s := S1536x1536) oc S384x768.size ic).toLoadRect} {hl : (landM 0).view.LoadsAt (Rect.unit (s := S2x384x768) os S1x384x768.size is).toLoadRect}
    {hl' : (landM 2).view.LoadsAt (Rect.unit (s := S2x384x768) os S1x384x768.size is).toLoadRect}
    {hls : sentM.view.LoadsAt (Rect.unit (s := S2x384x768) os S1x384x768.size is).toLoadRect} {hx : (sentM.access (Rect.unit (s := S2x384x768) os S1x384x768.size is)).Stores Finset.univ}
    {hm : (Finset.univ : Finset (Rect.unit (s := S2x384x768) os S1x384x768.size is).shape.Idx) = Finset.univ ∨ ∀ a, (Rect.unit (s := S2x384x768) os S1x384x768.size is).stride a = 1}
    {Q : α → sProp 𝕄} {k : Vec F S384x768 .bf16 → Vec F S1x384x768 .bf16 → Vec F S1x384x768 .bf16 → PUnit → Prog (TpuEff nD τ sig (Elt F) Λ₀ .tc) α} :
    (iprop(owns (c : Thread nD τ) (chunkM (c, s)) fullShare (partialAt x y c (c, s))
        ∗ owns (c : Thread nD τ) (slotM (landM 0) s) fullShare (slot (arriveAt x y 0 s c))
        ∗ owns (c : Thread nD τ) (slotM (landM 2) s) fullShare (slot (arriveAt x y 2 s c))
        ∗ ∃ X, owns (c : Thread nD τ) (slotM sentM s) fullShare X) : sProp 𝕄)
      ⊢ iprop(((owns (c : Thread nD τ) (chunkM (c, s)) fullShare (partialAt x y c (c, s))
            ∗ owns (c : Thread nD τ) (slotM (landM 0) s) fullShare (slot (arriveAt x y 0 s c))
            ∗ owns (c : Thread nD τ) (slotM (landM 2) s) fullShare (slot (arriveAt x y 2 s c))
            ∗ owns (c : Thread nD τ) (slotM sentM s) fullShare.left (slot (sentAt x y s c))
            ∗ owns (c : Thread nD τ) (slotM sentM s) fullShare.right (slot (sentAt x y s c)))
            -∗ wp frame (wpE (defs₀ (F := F)) 𝒱₀ (c : Thread nD τ) none) Set.univ
                (k (partialAt x y c (c, s)) (slot (arriveAt x y 0 s c)) (slot (arriveAt x y 2 s c)) ⟨⟩) Q)
          -∗ wp frame (wpE (defs₀ (F := F)) 𝒱₀ (c : Thread nD τ) none) Set.univ
              (loadAt pM oc S384x768.size ic hlc fun u => loadAt (landM 0) os S1x384x768.size is hl fun v =>
                loadAt (landM 2) os S1x384x768.size is hl' fun w =>
                loadAt sentM os S1x384x768.size is hls fun _ => storeAt sentM os S1x384x768.size is (pay u v w) hx hm (k u v w)) Q) := by
  subst hpay
  iintro ⟨Hp, H0, H2, Hs⟩ Hk
  iapply (wp_load_slice hc (hin' := offC_inb (c, s))) $$ Hp
  iintro Hp
  iapply (wp_load_slice hs (hin' := offS_inb s)) $$ H0
  iintro H0
  iapply (wp_load_slice hs (hin' := offS_inb s)) $$ H2
  iintro H2
  iapply (wp_put (m := sentM) hs (hin' := offS_inb s)) $$ [Hs]
  · iexact Hs
  iintro Hs
  have hsplit : (owns (c : Thread nD τ) (slotM sentM s) fullShare (slot (sentAt x y s c)) : sProp 𝕄)
      ⊢ iprop(owns (c : Thread nD τ) (slotM sentM s) fullShare.left (slot (sentAt x y s c))
          ∗ owns (c : Thread nD τ) (slotM sentM s) fullShare.right (slot (sentAt x y s c))) :=
    (owns_halves (c : Thread nD τ) (slotM sentM s) fullShare (slot (sentAt x y s c))).1
  ihave Hs' := hsplit $$ [Hs]
  · iexact Hs
  icases Hs' with ⟨Hl, Hr⟩
  iapply Hk
  isplitl [Hp]; · iexact Hp
  isplitl [H0]; · iexact H0
  isplitl [H2]; · iexact H2
  isplitl [Hl]; · iexact Hl
  iexact Hr

/-- A received chunk copied, widened, to its place in the answer. -/
theorem wp_copy (b : Slots) (s : Fin 2) (t : Dev nD × Fin 2) {os : Fin 3 → ℕ} (hs : os = offS s) {oc : Fin 2 → ℕ} (hc : oc = offC t)
    {pay : Vec F S1x384x768 .bf16 → Vec F S384x768 .f32} (hpay : pay = k0_pay20)
    {q : PosShare TreeShare} {V : Vec F S1x384x768 .bf16}
    {is : ∀ a, os a + S1x384x768.size a ≤ S2x384x768.size a} {ic : ∀ a, oc a + S384x768.size a ≤ S1536x1536.size a}
    {hl : b.view.LoadsAt (Rect.unit (s := S2x384x768) os S1x384x768.size is).toLoadRect}
    {hlo : oM.view.LoadsAt (Rect.unit (s := S1536x1536) oc S384x768.size ic).toLoadRect} {hx : (oM.access (Rect.unit (s := S1536x1536) oc S384x768.size ic)).Stores Finset.univ}
    {hm : (Finset.univ : Finset (Rect.unit (s := S1536x1536) oc S384x768.size ic).shape.Idx) = Finset.univ ∨ ∀ a, (Rect.unit (s := S1536x1536) oc S384x768.size ic).stride a = 1}
    {Q : α → sProp 𝕄} {k : PUnit → Prog (TpuEff nD τ sig (Elt F) Λ₀ .tc) α} :
    (iprop(owns (c : Thread nD τ) (slotM b s) q V ∗ ∃ X, owns (c : Thread nD τ) (answerM t) fullShare X) : sProp 𝕄)
      ⊢ iprop(((owns (c : Thread nD τ) (slotM b s) q V ∗ owns (c : Thread nD τ) (answerM t) fullShare (k0_pay20 V))
            -∗ wp frame (wpE (defs₀ (F := F)) 𝒱₀ (c : Thread nD τ) none) Set.univ (k ⟨⟩) Q)
          -∗ wp frame (wpE (defs₀ (F := F)) 𝒱₀ (c : Thread nD τ) none) Set.univ
              (loadAt b os S1x384x768.size is hl fun v =>
                loadAt oM oc S384x768.size ic hlo fun _ => storeAt oM oc S384x768.size ic (pay v) hx hm k) Q) := by
  subst hpay
  iintro ⟨Hl, Ho⟩ Hk
  iapply (wp_load_slice hs (hin' := offS_inb s)) $$ Hl
  iintro Hl
  iapply (wp_put (m := oM) hc (hin' := offC_inb t)) $$ [Ho]
  · iexact Ho
  iintro Ho
  iapply Hk
  isplitl [Hl]; · iexact Hl
  iexact Ho

end Block

/-! ## What a message lends is what it brings -/

section Sends

variable (x : Dev nD → Vec F S1536x768 .f32) (y : Dev nD → Vec F S768x1536 .f32) (s : Fin 2) (c : Dev nD)
  {o : Fin 2 → ℕ} {ic : ∀ a, o a + S384x768.size a ≤ S1536x1536.size a}
  {os : Fin 3 → ℕ} {is : ∀ a, os a + S1x384x768.size a ≤ S2x384x768.size a}

theorem lent_zero : (owns (c : Thread nD τ) (chunkM (fore s c, s)) fullShare (partialAt x y c (fore s c, s)) : sProp 𝕄)
    = sendPay x y 0 s c := rfl
theorem lent_one : (owns (c : Thread nD τ) (chunkM (back s (back s c), s)) fullShare (partialAt x y c (back s (back s c), s)) : sProp 𝕄)
    = sendPay x y 1 s c := rfl
theorem lent_two : (owns (c : Thread nD τ) (slotM relayM s) fullShare (slot (relayAt x y s c)) : sProp 𝕄) = sendPay x y 2 s c := rfl
theorem lent_three : (owns (c : Thread nD τ) (slotM sentM s) fullShare.left (slot (sentAt x y s c)) : sProp 𝕄) = sendPay x y 3 s c := rfl
theorem lent_four : (owns (c : Thread nD τ) (slotM sentM s) fullShare.right (slot (sentAt x y s c)) : sProp 𝕄) = sendPay x y 4 s c := rfl
theorem lent_five : (owns (c : Thread nD τ) (slotM nearM s) fullShare.left (slot (sentAt x y s (back s c))) : sProp 𝕄)
    = sendPay x y 5 s c := rfl

theorem lend_zero (ho : o = offC (fore s c, s)) :
    (sendPay x y 0 s c : sProp 𝕄) = owns (c : Thread nD τ) (pM.slice (Rect.unit (s := S1536x1536) o S384x768.size ic) (fun _ => rfl)) fullShare
      (arriveAt x y 0 s (dest 0 s c)) := by
  rw [owns_offset ho (hin' := offC_inb (fore s c, s))]
  show owns _ _ _ (partialAt x y c (fore s c, s)) = owns _ _ _ (partialAt x y (back s (fore s c)) (fore s c, s))
  rw [back_fore]
theorem lend_one (ho : o = offC (back s (back s c), s)) :
    (sendPay x y 1 s c : sProp 𝕄) = owns (c : Thread nD τ) (pM.slice (Rect.unit (s := S1536x1536) o S384x768.size ic) (fun _ => rfl)) fullShare
      (arriveAt x y 1 s (dest 1 s c)) := by
  rw [owns_offset ho (hin' := offC_inb (back s (back s c), s))]
  show owns _ _ _ (partialAt x y c (back s (back s c), s)) = owns _ _ _ (partialAt x y (fore s (back s c)) (back s (back s c), s))
  rw [fore_back]
theorem lend_two :
    (sendPay x y 2 s c : sProp 𝕄) = owns (c : Thread nD τ) (flatM relayM s) fullShare (arriveAt x y 2 s (dest 2 s c)) := by
  rw [← owns_flat]
  show owns _ _ _ (slot (relayAt x y s c)) = owns _ _ _ (slot (relayAt x y s (fore s (back s c))))
  rw [fore_back]
theorem lend_three :
    (sendPay x y 3 s c : sProp 𝕄) = owns (c : Thread nD τ) (flatM sentM s) fullShare.left (arriveAt x y 3 s (dest 3 s c)) := by
  rw [← owns_flat]
  show owns _ _ _ (slot (sentAt x y s c)) = owns _ _ _ (slot (sentAt x y s (back s (fore s c))))
  rw [back_fore]
theorem lend_four :
    (sendPay x y 4 s c : sProp 𝕄) = owns (c : Thread nD τ) (flatM sentM s) fullShare.right (arriveAt x y 4 s (dest 4 s c)) := by
  rw [← owns_flat]
  show owns _ _ _ (slot (sentAt x y s c)) = owns _ _ _ (slot (sentAt x y s (fore s (back s c))))
  rw [fore_back]
theorem lend_five :
    (sendPay x y 5 s c : sProp 𝕄) = owns (c : Thread nD τ) (flatM nearM s) fullShare.left (arriveAt x y 5 s (dest 5 s c)) := by
  rw [← owns_flat]
  show owns _ _ _ (slot (sentAt x y s (back s c))) = owns _ _ _ (slot (sentAt x y s (back s (back s (fore s c)))))
  rw [back_fore]

/-- What device `c` holds of the answer: its own chunk as finished, -/
theorem chunkAt_self : chunkAt x y c (c, s) = doneAt x y s c := if_pos rfl
/-- another's as received. -/
theorem chunkAt_other {j : Dev nD} (h : j ≠ c) : chunkAt x y c (j, s) = k0_pay20 (slot (sentAt x y s j)) := if_neg h

end Sends

end Cert.Ring

end
-- ==== Proof.Offsets.lean ====
/-
# The kernel's addresses

Each device the kernel names, and each place at which it reads or writes an array, by its position on the
ring relative to the device.
-/
module

public import proofs.«01_k».proof.Proof.Protocol

@[expose] public section

set_option maxRecDepth 16384

namespace Cert.Ring

open Cert.KernelIdeal Cert.KernelIdeal.Gen
open Idealize.ShloMosaic

/-! ## Devices: the neighbours signalled, then the destinations of the messages in the order sent -/

theorem dev1_eq (c : Dev nD) : (⟨k0_dev1 c, k0_dev1_lt c⟩ : Dev nD) = back 0 c := by revert c; decide +kernel
theorem dev2_eq (c : Dev nD) : (⟨k0_dev2 c, k0_dev2_lt c⟩ : Dev nD) = back 1 c := by revert c; decide +kernel
theorem dev3_eq (c : Dev nD) : (⟨k0_dev3 c, k0_dev3_lt c⟩ : Dev nD) = dest 0 0 c := by revert c; decide +kernel
theorem dev4_eq (c : Dev nD) : (⟨k0_dev4 c, k0_dev4_lt c⟩ : Dev nD) = dest 0 1 c := by revert c; decide +kernel
theorem dev5_eq (c : Dev nD) : (⟨k0_dev5 c, k0_dev5_lt c⟩ : Dev nD) = dest 1 0 c := by revert c; decide +kernel
theorem dev6_eq (c : Dev nD) : (⟨k0_dev6 c, k0_dev6_lt c⟩ : Dev nD) = dest 1 1 c := by revert c; decide +kernel
theorem dev7_eq (c : Dev nD) : (⟨k0_dev7 c, k0_dev7_lt c⟩ : Dev nD) = dest 2 0 c := by revert c; decide +kernel
theorem dev8_eq (c : Dev nD) : (⟨k0_dev8 c, k0_dev8_lt c⟩ : Dev nD) = dest 2 1 c := by revert c; decide +kernel
theorem dev9_eq (c : Dev nD) : (⟨k0_dev9 c, k0_dev9_lt c⟩ : Dev nD) = dest 3 0 c := by revert c; decide +kernel
theorem dev10_eq (c : Dev nD) : (⟨k0_dev10 c, k0_dev10_lt c⟩ : Dev nD) = dest 4 0 c := by revert c; decide +kernel
theorem dev11_eq (c : Dev nD) : (⟨k0_dev11 c, k0_dev11_lt c⟩ : Dev nD) = dest 3 1 c := by revert c; decide +kernel
theorem dev12_eq (c : Dev nD) : (⟨k0_dev12 c, k0_dev12_lt c⟩ : Dev nD) = dest 4 1 c := by revert c; decide +kernel
theorem dev13_eq (c : Dev nD) : (⟨k0_dev13 c, k0_dev13_lt c⟩ : Dev nD) = dest 5 0 c := by revert c; decide +kernel
theorem dev14_eq (c : Dev nD) : (⟨k0_dev14 c, k0_dev14_lt c⟩ : Dev nD) = dest 5 1 c := by revert c; decide +kernel

/-! ## Chunks of the first factor's block -/

theorem off1_eq (c : Dev nD) : k0_off1 c 1#32 = offA (fore 0 c) := by revert c; decide +kernel
theorem off1_eq' (c : Dev nD) : k0_off1 c 1#32 = offA (back 1 c) := by revert c; decide +kernel
theorem off1_two (c : Dev nD) : k0_off1 c 2#32 = offA (back 1 (back 1 c)) := by revert c; decide +kernel
theorem off4_eq (c : Dev nD) : k0_off4 c 1#32 = offA (fore 1 c) := by revert c; decide +kernel
theorem off4_eq' (c : Dev nD) : k0_off4 c 1#32 = offA (back 0 c) := by revert c; decide +kernel
theorem off4_two (c : Dev nD) : k0_off4 c 2#32 = offA (back 0 (back 0 c)) := by revert c; decide +kernel
theorem off11_eq (c : Dev nD) : k0_off11 c = offA c := by revert c; decide +kernel

/-! ## Chunks of the partial products and of the answer -/

theorem off2_eq (c : Dev nD) : k0_off2 c = offC (fore 0 c, 0) := by revert c; decide +kernel
theorem off3_eq (c : Dev nD) : k0_off3 c = offC (fore 0 c, 0) := by revert c; decide +kernel
theorem off5_one (c : Dev nD) : k0_off5 c 1#32 = offC (fore 1 c, 1) := by revert c; decide +kernel
theorem off5_up (c : Dev nD) : k0_off5 c 4294967295#32 = offC (back 1 c, 1) := by revert c; decide +kernel
theorem off5_two (c : Dev nD) : k0_off5 c 4294967294#32 = offC (back 1 (back 1 c), 1) := by revert c; decide +kernel
theorem off6_eq (c : Dev nD) : k0_off6 c = offC (fore 1 c, 1) := by revert c; decide +kernel
theorem off7_one (c : Dev nD) : k0_off7 c 1#32 = offC (back 0 c, 0) := by revert c; decide +kernel
theorem off7_two (c : Dev nD) : k0_off7 c 2#32 = offC (back 0 (back 0 c), 0) := by revert c; decide +kernel
theorem off8_eq (c : Dev nD) : k0_off8 c = offC (back 0 (back 0 c), 0) := by revert c; decide +kernel
theorem off9_two (c : Dev nD) : k0_off9 c 2#32 = offC (back 1 (back 1 c), 1) := by revert c; decide +kernel
theorem off9_one (c : Dev nD) : k0_off9 c 1#32 = offC (back 1 c, 1) := by revert c; decide +kernel
theorem off9_down (c : Dev nD) : k0_off9 c 4294967295#32 = offC (fore 1 c, 1) := by revert c; decide +kernel
theorem off10_eq (c : Dev nD) : k0_off10 c = offC (back 1 (back 1 c), 1) := by revert c; decide +kernel
theorem off12_eq (c : Dev nD) : k0_off12 c = offC (c, 0) := by revert c; decide +kernel
theorem off13_eq (c : Dev nD) : k0_off13 c = offC (c, 1) := by revert c; decide +kernel

end Cert.Ring

end
-- ==== Proof.Regions.lean ====
/-
# Splitting and joining the buffers

The partial products and the answer are held by eighths, one for each chunk and half of the columns; the
two-slot buffers slot by slot.
-/
module

public import proofs.«01_k».proof.Proof.Protocol

@[expose] public section

set_option maxRecDepth 16384

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Eighths -/

theorem rectC_disjoint (t t' : Dev nD × Fin 2) (h : t ≠ t') : Disjoint (rectC t).set (rectC t').set := by
  refine Finset.disjoint_left.mpr fun i hi hi' => h ?_
  rw [← Rect.map_emb_univ] at hi hi'
  obtain ⟨a, -, rfl⟩ := Finset.mem_map.mp hi
  obtain ⟨b, -, hb⟩ := Finset.mem_map.mp hi'
  have e := (chunkOf_emb t' b).1
  rw [show (rectC t').emb b = (rectC t).emb a from hb, (chunkOf_emb t a).1] at e
  exact e
theorem rectC_cover : (Finset.univ : Finset (Dev nD × Fin 2)).biUnion (fun t => (rectC t).set) = Finset.univ := by
  refine Finset.eq_univ_of_forall fun i => Finset.mem_biUnion.mpr ⟨chunkOf i, Finset.mem_univ _, ?_⟩
  rw [← Rect.map_emb_univ]
  exact Finset.mem_map.mpr ⟨innerOf i, Finset.mem_univ _, emb_innerOf i⟩

/-- The eighths in the order device `c` first fills them. -/
abbrev around (c : Dev nD) : List (Dev nD × Fin 2) :=
  [(fore 0 c, 0), (fore 1 c, 1), (back 0 (back 0 c), 0), (back 1 (back 1 c), 1), (back 0 c, 0), (back 1 c, 1), (c, 0), (c, 1)]

/-- One assertion for each eighth. -/
abbrev eight (c : Dev nD) (P : Dev nD × Fin 2 → sProp 𝕄) : sProp 𝕄 :=
  iprop(P (fore 0 c, 0) ∗ P (fore 1 c, 1) ∗ P (back 0 (back 0 c), 0) ∗ P (back 1 (back 1 c), 1)
    ∗ P (back 0 c, 0) ∗ P (back 1 c, 1) ∗ P (c, 0) ∗ P (c, 1))

omit [FloatOps F] in
theorem eight_eq (c : Dev nD) (P : Dev nD × Fin 2 → sProp 𝕄) : bigSep Finset.univ P = eight c P :=
  bigSep_univ_eq_bigSepL (around c) (by revert c; decide +kernel) (by revert c; decide +kernel) P

theorem split_eight {e : EltTy} (m : Memref sig .tc .vmem S1536x1536 e) (c : Dev nD) :
    (iprop(∃ X, owns (c : Thread nD τ) m fullShare X) : sProp 𝕄)
      ⊢ eight c fun t => iprop(∃ X, owns (c : Thread nD τ) (m.slice (rectC t) (fun _ => rfl)) fullShare X) := by
  rw [← eight_eq]
  iintro ⟨%X, H⟩
  ihave H' := (owns_rects (c : Thread nD τ) m fullShare rectC (fun _ _ => rfl) rectC_disjoint rectC_cover X) $$ H
  have h1 (t : Dev nD × Fin 2) : (owns (c : Thread nD τ) (m.slice (rectC t) (fun _ => rfl)) fullShare (fun j => X ((rectC t).emb j)) : sProp 𝕄)
      ⊢ iprop(∃ X, owns (c : Thread nD τ) (m.slice (rectC t) (fun _ => rfl)) fullShare X) := by
    iintro H
    iexists fun j => X ((rectC t).emb j)
    iexact H
  have h : (bigSep Finset.univ fun t => owns (c : Thread nD τ) (m.slice (rectC t) (fun _ => rfl)) fullShare (fun j => X ((rectC t).emb j)) : sProp 𝕄)
      ⊢ bigSep Finset.univ fun t => iprop(∃ X, owns (c : Thread nD τ) (m.slice (rectC t) (fun _ => rfl)) fullShare X) :=
    bigSep_mono fun t _ => h1 t
  iapply h
  iexact H'

theorem join_eight {e : EltTy} (m : Memref sig .tc .vmem S1536x1536 e) (c : Dev nD) (V : Dev nD × Fin 2 → S384x768.Idx → Elt F e) :
    (eight c fun t => owns (c : Thread nD τ) (m.slice (rectC t) (fun _ => rfl)) fullShare (V t) : sProp 𝕄)
      ⊢ owns (c : Thread nD τ) m fullShare (assemble V) := by
  rw [← eight_eq]
  have h : (fun t => owns (c : Thread nD τ) (m.slice (rectC t) (fun _ => rfl)) fullShare (V t) : Dev nD × Fin 2 → sProp 𝕄)
      = fun t => owns (c : Thread nD τ) (m.slice (rectC t) (fun _ => rfl)) fullShare (fun j => assemble V ((rectC t).emb j)) :=
    funext fun t => congrArg _ (funext fun j => (assemble_emb V t j).symm)
  rw [h]
  exact owns_of_rects (c : Thread nD τ) m fullShare rectC (fun _ _ => rfl) rectC_disjoint rectC_cover (assemble V)

/-! ## Slots -/

/-- The slot an index of a two-slot buffer lies in, -/
def slotOf (i : S2x384x768.Idx) : Fin 2 := i 0
/-- and the index within it. -/
def withinSlot (i : S2x384x768.Idx) : S1x384x768.Idx := fun a => match a with
  | ⟨0, _⟩ => ⟨0, Nat.one_pos⟩
  | ⟨1, _⟩ => i 1
  | ⟨2, _⟩ => i 2

theorem rectS_val (s : Fin 2) (j : (rectS s).shape.Idx) (a : Fin 3) : (((rectS s).emb j) a).val = offS s a + (j a).val := by
  simp [Rect.emb, Rect.unit]

theorem slotOf_emb (s : Fin 2) (i : (rectS s).shape.Idx) : slotOf ((rectS s).emb i) = s ∧ withinSlot ((rectS s).emb i) = i := by
  have b0 : (i 0).val < 1 := (i 0).isLt
  constructor
  · refine Fin.ext ((rectS_val s i 0).trans ?_)
    show s.val + (i 0).val = s.val
    omega
  · funext a
    fin_cases a
    · refine Fin.ext ?_
      show 0 = (i 0).val
      omega
    · refine Fin.ext ((rectS_val s i 1).trans ?_)
      show 0 + (i 1).val = (i 1).val
      omega
    · refine Fin.ext ((rectS_val s i 2).trans ?_)
      show 0 + (i 2).val = (i 2).val
      omega

theorem emb_withinSlot (i : S2x384x768.Idx) : (rectS (slotOf i)).emb (withinSlot i) = i := by
  funext a
  fin_cases a
  · refine Fin.ext ((rectS_val _ _ 0).trans ?_)
    show (i 0).val + 0 = (i 0).val
    omega
  · refine Fin.ext ((rectS_val _ _ 1).trans ?_)
    show 0 + (i 1).val = (i 1).val
    omega
  · refine Fin.ext ((rectS_val _ _ 2).trans ?_)
    show 0 + (i 2).val = (i 2).val
    omega

theorem rectS_disjoint (s s' : Fin 2) (h : s ≠ s') : Disjoint (rectS s).set (rectS s').set := by
  refine Finset.disjoint_left.mpr fun i hi hi' => h ?_
  rw [← Rect.map_emb_univ] at hi hi'
  obtain ⟨a, -, rfl⟩ := Finset.mem_map.mp hi
  obtain ⟨b, -, hb⟩ := Finset.mem_map.mp hi'
  have e := (slotOf_emb s' b).1
  rw [show (rectS s').emb b = (rectS s).emb a from hb, (slotOf_emb s a).1] at e
  exact e
theorem rectS_cover : (Finset.univ : Finset (Fin 2)).biUnion (fun s => (rectS s).set) = Finset.univ := by
  refine Finset.eq_univ_of_forall fun i => Finset.mem_biUnion.mpr ⟨slotOf i, Finset.mem_univ _, ?_⟩
  rw [← Rect.map_emb_univ]
  exact Finset.mem_map.mpr ⟨withinSlot i, Finset.mem_univ _, emb_withinSlot i⟩

omit [FloatOps F] in
theorem pair_eq (P : Fin 2 → sProp 𝕄) : bigSep Finset.univ P = iprop(P 0 ∗ P 1) :=
  bigSep_univ_eq_bigSepL [0, 1] (by decide) (by decide) P

theorem split_slots (b : Slots) (c : Dev nD) :
    (iprop(∃ X, owns (c : Thread nD τ) b fullShare X) : sProp 𝕄)
      ⊢ iprop((∃ X, owns (c : Thread nD τ) (slotM b 0) fullShare X) ∗ ∃ X, owns (c : Thread nD τ) (slotM b 1) fullShare X) := by
  iintro ⟨%X, H⟩
  ihave H' := ((owns_rects (c : Thread nD τ) b fullShare rectS (fun _ _ => rfl) rectS_disjoint rectS_cover X).trans
    (Entails.of_eq (pair_eq _))) $$ H
  icases H' with ⟨H0, H1⟩
  isplitl [H0]
  · iexists _; iexact H0
  · iexists _; iexact H1

theorem join_slots (b : Slots) (c : Dev nD) (V : Fin 2 → S1x384x768.Idx → Elt F .bf16) :
    iprop(owns (c : Thread nD τ) (slotM b 0) fullShare (V 0) ∗ owns (c : Thread nD τ) (slotM b 1) fullShare (V 1))
      ⊢ (iprop(∃ X, owns (c : Thread nD τ) b fullShare X) : sProp 𝕄) := by
  have h : (fun s => owns (c : Thread nD τ) (slotM b s) fullShare (V s) : Fin 2 → sProp 𝕄)
      = fun s => owns (c : Thread nD τ) (slotM b s) fullShare (fun j => (fun i => V (slotOf i) (withinSlot i)) ((rectS s).emb j)) :=
    funext fun s => congrArg _ (funext fun j => by
      show V s j = V (slotOf ((rectS s).emb j)) (withinSlot ((rectS s).emb j))
      rw [(slotOf_emb s j).1, (slotOf_emb s j).2])
  rw [← pair_eq (fun s => owns (c : Thread nD τ) (slotM b s) fullShare (V s)), h]
  iintro H
  iexists fun i => V (slotOf i) (withinSlot i)
  iapply (owns_of_rects (c : Thread nD τ) b fullShare rectS (fun _ _ => rfl) rectS_disjoint rectS_cover (fun i => V (slotOf i) (withinSlot i)))
  iexact H

end Cert.Ring

end
-- ==== Proof.Body.lean ====
/-
# The kernel's body

One run of the body on device `c`, from what the launch gives it to what it leaves, step by step in the
order of the program. It leaves the answer assembled from the eight chunks, the two factors' blocks as
they were, and every semaphore at zero.
-/
module

public import proofs.«01_k».proof.Proof.Steps
public import proofs.«01_k».proof.Proof.Work
public import proofs.«01_k».proof.Proof.Offsets
public import proofs.«01_k».proof.Proof.Regions

@[expose] public section

set_option maxRecDepth 16384

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The device's block of the first factor, as the launch stages it; -/
abbrev xM : Memref sig .tc .vmem S1536x768 .f32 := Memref.whole cc0_stg0_0
/-- of the second. -/
abbrev yM : Memref sig .tc .vmem S768x1536 .f32 := Memref.whole cc0_stg1_0

/-- A memref owned, whatever it holds. -/
def loose {sp : CoreSpace} {sh : Shape} {e : EltTy} (c : Dev nD) (m : Memref sig .tc sp sh e) : sProp 𝕄 :=
  iprop(∃ X, owns (c : Thread nD τ) m fullShare X)

/-- The kernel's own buffers, whatever they hold. -/
def buffers (c : Dev nD) : sProp 𝕄 :=
  iprop(loose c aM ∗ loose c bM ∗ loose c pM ∗ loose c (landM 0) ∗ loose c (landM 1) ∗ loose c relayM ∗ loose c (landM 2)
    ∗ loose c sentM ∗ loose c (landM 3) ∗ loose c (landM 4) ∗ loose c (landM 5))

/-- One assertion for each message. -/
abbrev twelve (P : Fin 6 → Fin 2 → sProp 𝕄) : sProp 𝕄 :=
  iprop(P 0 0 ∗ P 0 1 ∗ P 1 0 ∗ P 1 1 ∗ P 2 0 ∗ P 2 1 ∗ P 3 0 ∗ P 3 1 ∗ P 4 0 ∗ P 4 1 ∗ P 5 0 ∗ P 5 1)

section Body

variable (x : Dev nD → Vec F S1536x768 .f32) (y : Dev nD → Vec F S768x1536 .f32) (K : Dev nD × Cell → ℕ) (c : Dev nD)

/-- What the body starts from, -/
def bodyPre : sProp 𝕄 :=
  iprop(records x y K ∗ (∃ W, owes (c : Thread nD τ) (O₀ c) W)
    ∗ atPos ER (barCell c) 0 ∅ 0 ∗ cred (tallyAt (barCell c) () 2)
    ∗ dutyTok ER (barCell (back 0 c)) 0 0 ∗ dutyTok ER (barCell (back 1 c)) 0 1
    ∗ twelve (fun f s => pending f s c) ∗ twelve (fun f s => awaited f s c)
    ∗ owns (c : Thread nD τ) xM fullShare (x c) ∗ owns (c : Thread nD τ) yM fullShare (y c) ∗ loose c oM ∗ buffers c)

/-- and what it leaves. -/
def bodyPost : sProp 𝕄 :=
  iprop(owing c [] ∗ owns (c : Thread nD τ) xM fullShare (x c) ∗ owns (c : Thread nD τ) yM fullShare (y c)
    ∗ owns (c : Thread nD τ) oM fullShare (assemble (chunkAt x y c)) ∗ buffers c
    ∗ twelve (fun f s => semVal (sendCell f s c) 0) ∗ twelve (fun f s => semVal (recvCell f s c) 0) ∗ semVal (barCell c) 0)

theorem zero_pair : (![0, 0] : Fin 2 → ℕ) = fun _ => 0 := by decide

/-- The answer, put together from what was stored in its eight places. -/
theorem join_answer :
    iprop(owns (c : Thread nD τ) (answerM (fore 0 c, 0)) fullShare (k0_pay20 (slot (arriveAt x y 4 0 c)))
        ∗ owns (c : Thread nD τ) (answerM (fore 1 c, 1)) fullShare (k0_pay20 (slot (arriveAt x y 4 1 c)))
        ∗ owns (c : Thread nD τ) (answerM (back 0 (back 0 c), 0)) fullShare (k0_pay20 (slot (arriveAt x y 5 0 c)))
        ∗ owns (c : Thread nD τ) (answerM (back 1 (back 1 c), 1)) fullShare (k0_pay20 (slot (arriveAt x y 5 1 c)))
        ∗ owns (c : Thread nD τ) (answerM (back 0 c, 0)) fullShare (k0_pay20 (slot (arriveAt x y 3 0 c)))
        ∗ owns (c : Thread nD τ) (answerM (back 1 c, 1)) fullShare (k0_pay20 (slot (arriveAt x y 3 1 c)))
        ∗ owns (c : Thread nD τ) (answerM (c, 0)) fullShare (doneAt x y 0 c)
        ∗ owns (c : Thread nD τ) (answerM (c, 1)) fullShare (doneAt x y 1 c))
      ⊢ (owns (c : Thread nD τ) oM fullShare (assemble (chunkAt x y c)) : sProp 𝕄) := by
  refine Entails.trans (Entails.of_eq ?_) (join_eight oM c (chunkAt x y c))
  unfold eight
  beta_reduce
  rw [chunkAt_self, chunkAt_self, chunkAt_other x y 0 c (fore_ne 0 c),
    chunkAt_other x y 1 c (fore_ne 1 c),
    chunkAt_other x y 0 c (back_back_ne 0 c),
    chunkAt_other x y 1 c (back_back_ne 1 c),
    chunkAt_other x y 0 c (back_ne 0 c),
    chunkAt_other x y 1 c (back_ne 1 c)]
  rfl

/-- Two halves of a slot, and the other slot's two halves, make the buffer. -/
theorem join_halves (b : Slots) (V : Fin 2 → S1x384x768.Idx → Elt F .bf16) :
    iprop(owns (c : Thread nD τ) (slotM b 0) fullShare.left (V 0) ∗ owns (c : Thread nD τ) (slotM b 0) fullShare.right (V 0)
        ∗ owns (c : Thread nD τ) (slotM b 1) fullShare.left (V 1) ∗ owns (c : Thread nD τ) (slotM b 1) fullShare.right (V 1))
      ⊢ (loose c b : sProp 𝕄) := by
  have h (s : Fin 2) : iprop(owns (c : Thread nD τ) (slotM b s) fullShare.left (V s) ∗ owns (c : Thread nD τ) (slotM b s) fullShare.right (V s))
      ⊢ (owns (c : Thread nD τ) (slotM b s) fullShare (V s) : sProp 𝕄) := (owns_halves (c : Thread nD τ) (slotM b s) fullShare (V s)).2
  iintro ⟨H0, H0', H1, H1'⟩
  unfold loose
  iapply (join_slots b c V)
  isplitl [H0 H0']
  · iapply (h 0); isplitl [H0]; · iexact H0
    iexact H0'
  · iapply (h 1); isplitl [H1]; · iexact H1
    iexact H1'

set_option maxHeartbeats 4000000 in
/-- The body's run. -/
theorem body_run :
    bodyPre x y K c ⊢ wp frame (wpE (defs₀ (F := F)) 𝒱₀ (c : Thread nD τ) none) Set.univ
      (cc0_body xM (Memref.isWhole_whole _) yM (Memref.isWhole_whole _) oM (Memref.isWhole_whole _)
        (Memref.whole cc0_scratch0) (Memref.isWhole_whole _) (Memref.whole cc0_scratch1) (Memref.isWhole_whole _)
        (Memref.whole cc0_scratch2) (Memref.isWhole_whole _) (Memref.whole cc0_scratch3) (Memref.isWhole_whole _)
        (Memref.whole cc0_scratch4) (Memref.isWhole_whole _) (Memref.whole cc0_scratch5) (Memref.isWhole_whole _)
        (Memref.whole cc0_scratch6) (Memref.isWhole_whole _) (Memref.whole cc0_scratch7) (Memref.isWhole_whole _)
        (Memref.whole cc0_scratch8) (Memref.isWhole_whole _) (Memref.whole cc0_scratch9) (Memref.isWhole_whole _)
        (Memref.whole cc0_scratch10) (Memref.isWhole_whole _) cc0_scratch11 cc0_scratch12) (fun _ => bodyPost x y c) := by
  simp only [cc0_body_eq_skeleton]; unfold cc0_body_skel
  unfold bodyPre buffers
  iintro ⟨#HK, HO, Hbar, Hbc, Ht0, Ht1, ⟨P00, P01, P10, P11, P20, P21, P30, P31, P40, P41, P50, P51⟩,
    ⟨A00, A01, A10, A11, A20, A21, A30, A31, A40, A41, A50, A51⟩, Hx, Hy, Ho, Ha, Hb, Hp, L0, L1, Hr, L2, Hs, L3, L4, L5⟩
  unfold loose
  ihave Hp' := (split_eight pM c) $$ Hp
  icases Hp' with ⟨C1, C2, C3, C4, C5, C6, C7, C8⟩
  ihave Ho' := (split_eight oM c) $$ Ho
  icases Ho' with ⟨D1, D2, D3, D4, D5, D6, D7, D8⟩
  ihave L0' := (split_slots (landM 0) c) $$ L0
  icases L0' with ⟨L00, L01⟩
  ihave L1' := (split_slots (landM 1) c) $$ L1
  icases L1' with ⟨L10, L11⟩
  ihave L2' := (split_slots (landM 2) c) $$ L2
  icases L2' with ⟨L20, L21⟩
  ihave L3' := (split_slots (landM 3) c) $$ L3
  icases L3' with ⟨L30, L31⟩
  ihave L4' := (split_slots (landM 4) c) $$ L4
  icases L4' with ⟨L40, L41⟩
  ihave L5' := (split_slots (landM 5) c) $$ L5
  icases L5' with ⟨L50, L51⟩
  ihave Hr' := (split_slots relayM c) $$ Hr
  icases Hr' with ⟨Hr0, Hr1⟩
  ihave Hs' := (split_slots sentM c) $$ Hs
  icases Hs' with ⟨Hs0, Hs1⟩
  -- the factors' blocks narrowed, and the greetings
  rw [k0_part1_eq_skeleton]; unfold k0_part1_skel
  simp only [semSignalWord, semWaitWord, Prog.lift, Prog.bind_op, Prog.bind_ret, Prog.pure_eq_ret, wp_deviceId]
  iapply (wp_narrow zero_pair (m := xM) (b := aM) (v := x c)) $$ [Hx Ha]
  · isplitl [Hx]; · iexact Hx
    iexact Ha
  iintro ⟨Hx, Ha⟩
  iapply (wp_narrow zero_pair (m := yM) (b := bM) (v := y c)) $$ [Hy Hb]
  · isplitl [Hy]; · iexact Hy
    iexact Hb
  iintro ⟨Hy, Hb⟩
  iapply (wp_hello x y K 0 c (dev1_eq c) (O := O₀ c) (O' := O₁ c) rfl rfl) $$ [HO Ht0 L00 L11 L21 L30 L41 L50]
  · unfold room; iframe HK HO Ht0 L00 L11 L21 L30 L41 L50
  iintro HO
  iapply (wp_hello x y K 1 c (dev2_eq c) (O := O₁ c) (O' := due c order) rfl rfl) $$ [HO Ht1 L01 L10 L20 L31 L40 L51]
  · unfold room; iframe HK HO Ht1 L01 L10 L20 L31 L40 L51
  iintro HO
  iapply (wp_heard x y K c rfl) $$ [HO Hbc Hbar]
  · unfold owing; iframe HK HO Hbc Hbar
  unfold roomsAhead
  iintro ⟨HO, ⟨R00, R01, R10, R11, R20, R21, R30, R40, R31, R41, R50, R51⟩, Zb⟩
  -- partial products and the first messages
  rw [k0_part2_eq_skeleton]; unfold k0_part2_skel
  rw [k0_part3_eq_skeleton]; unfold k0_part3_skel
  simp only [Prog.lift, Prog.bind_op, Prog.bind_ret, Prog.pure_eq_ret]
  iapply (wp_product x y c (fore 0 c) 0 (off1_eq c) rfl (off2_eq c) rfl) $$ [Ha Hb C1]
  · iframe Ha Hb; iexact C1
  iintro ⟨Ha, Hb, C1⟩
  iapply (wp_message x y K 0 0 c (order.drop 1) (dev3_eq c) (lent_zero x y 0 c) (lend_zero x y 0 c (off3_eq c))) $$ [HO P00 C1 R00]
  · iframe HK HO P00 C1 R00
  iintro ⟨HO, F00⟩
  iapply (wp_product x y c (fore 1 c) 1 (off4_eq c) rfl (off5_one c) rfl) $$ [Ha Hb C2]
  · iframe Ha Hb; iexact C2
  iintro ⟨Ha, Hb, C2⟩
  iapply (wp_message x y K 0 1 c (order.drop 2) (dev4_eq c) (lent_zero x y 1 c) (lend_zero x y 1 c (off6_eq c))) $$ [HO P01 C2 R01]
  · iframe HK HO P01 C2 R01
  iintro ⟨HO, F01⟩
  -- those for the opposite device
  rw [k0_part4_eq_skeleton]; unfold k0_part4_skel
  rw [k0_part5_eq_skeleton]; unfold k0_part5_skel
  simp only [Prog.lift, Prog.bind_op, Prog.bind_ret, Prog.pure_eq_ret]
  iapply (wp_product x y c (back 0 (back 0 c)) 0 (off4_two c) rfl (off7_two c) rfl) $$ [Ha Hb C3]
  · iframe Ha Hb; iexact C3
  iintro ⟨Ha, Hb, C3⟩
  iapply (wp_message x y K 1 0 c (order.drop 3) (dev5_eq c) (lent_one x y 0 c) (lend_one x y 0 c (off8_eq c))) $$ [HO P10 C3 R10]
  · iframe HK HO P10 C3 R10
  iintro ⟨HO, F10⟩
  iapply (wp_product x y c (back 1 (back 1 c)) 1 (off1_two c) rfl (off9_two c) rfl) $$ [Ha Hb C4]
  · iframe Ha Hb; iexact C4
  iintro ⟨Ha, Hb, C4⟩
  iapply (wp_message x y K 1 1 c (order.drop 4) (dev6_eq c) (lent_one x y 1 c) (lend_one x y 1 c (off10_eq c))) $$ [HO P11 C4 R11]
  · iframe HK HO P11 C4 R11
  iintro ⟨HO, F11⟩
  -- and those it keeps
  rw [k0_part6_eq_skeleton]; unfold k0_part6_skel
  rw [k0_part7_eq_skeleton]; unfold k0_part7_skel
  rw [k0_part8_eq_skeleton]; unfold k0_part8_skel
  simp only [Prog.lift, Prog.bind_op, Prog.bind_ret, Prog.pure_eq_ret]
  iapply (wp_product x y c (back 0 c) 0 (off4_eq' c) rfl (off7_one c) rfl) $$ [Ha Hb C5]
  · iframe Ha Hb; iexact C5
  iintro ⟨Ha, Hb, C5⟩
  iapply (wp_product x y c (back 1 c) 1 (off1_eq' c) rfl (off9_one c) rfl) $$ [Ha Hb C6]
  · iframe Ha Hb; iexact C6
  iintro ⟨Ha, Hb, C6⟩
  iapply (wp_product x y c (c) 0 (off11_eq c) rfl (off12_eq c) rfl) $$ [Ha Hb C7]
  · iframe Ha Hb; iexact C7
  iintro ⟨Ha, Hb, C7⟩
  iapply (wp_product x y c (c) 1 (off11_eq c) rfl (off13_eq c) rfl) $$ [Ha Hb C8]
  · iframe Ha Hb; iexact C8
  iintro ⟨Ha, Hb, C8⟩
  -- the sums passed on
  iapply (wp_received x y K 1 0 c (order.drop 4) (by decide)) $$ [HO A10]
  · iframe HK HO A10
  iintro ⟨HO, L10, Zr10⟩
  iapply (wp_relay x y c 0 rfl (off7_one c) rfl) $$ [L10 C5 Hr0]
  · isplitl [L10]; · iexact L10
    isplitl [C5]; · iexact C5
    iexact Hr0
  iintro ⟨L10, C5, Hr0⟩
  iapply (wp_message x y K 2 0 c (order.drop 5) (dev7_eq c) (lent_two x y 0 c) (lend_two x y 0 c)) $$ [HO P20 Hr0 R20]
  · iframe HK HO P20 Hr0 R20
  iintro ⟨HO, F20⟩
  -- to both sides
  rw [k0_part9_eq_skeleton]; unfold k0_part9_skel
  simp only [Prog.lift, Prog.bind_op, Prog.bind_ret, Prog.pure_eq_ret]
  iapply (wp_received x y K 1 1 c (order.drop 5) (by decide)) $$ [HO A11]
  · iframe HK HO A11
  iintro ⟨HO, L11, Zr11⟩
  iapply (wp_relay x y c 1 rfl (off5_up c) rfl) $$ [L11 C6 Hr1]
  · isplitl [L11]; · iexact L11
    isplitl [C6]; · iexact C6
    iexact Hr1
  iintro ⟨L11, C6, Hr1⟩
  iapply (wp_message x y K 2 1 c (order.drop 6) (dev8_eq c) (lent_two x y 1 c) (lend_two x y 1 c)) $$ [HO P21 Hr1 R21]
  · iframe HK HO P21 Hr1 R21
  iintro ⟨HO, F21⟩
  iapply (wp_received x y K 0 0 c (order.drop 6) (by decide)) $$ [HO A00]
  · iframe HK HO A00
  iintro ⟨HO, L00, Zr00⟩
  -- the first finished chunk
  rw [k0_part10_eq_skeleton]; unfold k0_part10_skel
  rw [k0_part11_eq_skeleton]; unfold k0_part11_skel
  simp only [Prog.lift, Prog.bind_op, Prog.bind_ret, Prog.pure_eq_ret]
  iapply (wp_received x y K 2 0 c (order.drop 6) (by decide)) $$ [HO A20]
  · iframe HK HO A20
  iintro ⟨HO, L20, Zr20⟩
  iapply (wp_finish x y c 0 rfl (off12_eq c) rfl) $$ [C7 L00 L20 Hs0]
  · isplitl [C7]; · iexact C7
    isplitl [L00]; · iexact L00
    isplitl [L20]; · iexact L20
    iexact Hs0
  iintro ⟨C7, L00, L20, Hs0, Hs0r⟩
  iapply (wp_message x y K 3 0 c (order.drop 7) (dev9_eq c) (lent_three x y 0 c) (lend_three x y 0 c)) $$ [HO P30 Hs0 R30]
  · iframe HK HO P30 Hs0 R30
  iintro ⟨HO, F30⟩
  iapply (wp_message x y K 4 0 c (order.drop 8) (dev10_eq c) (lent_four x y 0 c) (lend_four x y 0 c)) $$ [HO P40 Hs0r R40]
  · iframe HK HO P40 Hs0r R40
  iintro ⟨HO, F40⟩
  iapply (wp_put (m := oM) (off12_eq c) (hin' := offC_inb (c, 0))) $$ [D7]
  · iexact D7
  iintro D7
  iapply (wp_received x y K 0 1 c (order.drop 8) (by decide)) $$ [HO A01]
  · iframe HK HO A01
  iintro ⟨HO, L01, Zr01⟩
  -- the second
  rw [k0_part12_eq_skeleton]; unfold k0_part12_skel
  rw [k0_part13_eq_skeleton]; unfold k0_part13_skel
  simp only [Prog.lift, Prog.bind_op, Prog.bind_ret, Prog.pure_eq_ret]
  iapply (wp_received x y K 2 1 c (order.drop 8) (by decide)) $$ [HO A21]
  · iframe HK HO A21
  iintro ⟨HO, L21, Zr21⟩
  iapply (wp_finish x y c 1 rfl (off13_eq c) rfl) $$ [C8 L01 L21 Hs1]
  · isplitl [C8]; · iexact C8
    isplitl [L01]; · iexact L01
    isplitl [L21]; · iexact L21
    iexact Hs1
  iintro ⟨C8, L01, L21, Hs1, Hs1r⟩
  iapply (wp_message x y K 3 1 c (order.drop 9) (dev11_eq c) (lent_three x y 1 c) (lend_three x y 1 c)) $$ [HO P31 Hs1 R31]
  · iframe HK HO P31 Hs1 R31
  iintro ⟨HO, F31⟩
  iapply (wp_message x y K 4 1 c (order.drop 10) (dev12_eq c) (lent_four x y 1 c) (lend_four x y 1 c)) $$ [HO P41 Hs1r R41]
  · iframe HK HO P41 Hs1r R41
  iintro ⟨HO, F41⟩
  iapply (wp_put (m := oM) (off13_eq c) (hin' := offC_inb (c, 1))) $$ [D8]
  · iexact D8
  iintro D8
  -- the chunks that arrive
  rw [k0_part14_eq_skeleton]; unfold k0_part14_skel
  rw [k0_part15_eq_skeleton]; unfold k0_part15_skel
  simp only [Prog.lift, Prog.bind_op, Prog.bind_ret, Prog.pure_eq_ret]
  iapply (wp_received x y K 3 0 c (order.drop 10) (by decide)) $$ [HO A30]
  · iframe HK HO A30
  iintro ⟨HO, L30, Zr30⟩
  ihave L30' := (owns_halves (c : Thread nD τ) (slotM (landM 3) 0) fullShare (slot (arriveAt x y 3 0 c))).1 $$ L30
  icases L30' with ⟨L30, L30r⟩
  iapply (wp_message x y K 5 0 c (order.drop 11) (dev13_eq c) (lent_five x y 0 c) (lend_five x y 0 c)) $$ [HO P50 L30 R50]
  · iframe HK HO P50 L30 R50
  iintro ⟨HO, F50⟩
  iapply (wp_copy c (landM 3) 0 (back 0 c, 0) rfl (off7_one c) rfl) $$ [L30r D5]
  · isplitl [L30r]; · iexact L30r
    iexact D5
  iintro ⟨L30r, D5⟩
  iapply (wp_received x y K 3 1 c (order.drop 11) (by decide)) $$ [HO A31]
  · iframe HK HO A31
  iintro ⟨HO, L31, Zr31⟩
  ihave L31' := (owns_halves (c : Thread nD τ) (slotM (landM 3) 1) fullShare (slot (arriveAt x y 3 1 c))).1 $$ L31
  icases L31' with ⟨L31, L31r⟩
  iapply (wp_message x y K 5 1 c (order.drop 12) (dev14_eq c) (lent_five x y 1 c) (lend_five x y 1 c)) $$ [HO P51 L31 R51]
  · iframe HK HO P51 L31 R51
  iintro ⟨HO, F51⟩
  iapply (wp_copy c (landM 3) 1 (back 1 c, 1) rfl (off5_up c) rfl) $$ [L31r D6]
  · isplitl [L31r]; · iexact L31r
    iexact D6
  iintro ⟨L31r, D6⟩
  -- those from the other side
  rw [k0_part16_eq_skeleton]; unfold k0_part16_skel
  rw [k0_part17_eq_skeleton]; unfold k0_part17_skel
  simp only [Prog.lift, Prog.bind_op, Prog.bind_ret, Prog.pure_eq_ret]
  iapply (wp_received x y K 4 0 c (order.drop 12) (by decide)) $$ [HO A40]
  · iframe HK HO A40
  iintro ⟨HO, L40, Zr40⟩
  iapply (wp_copy c (landM 4) 0 (fore 0 c, 0) rfl (off2_eq c) rfl) $$ [L40 D1]
  · isplitl [L40]; · iexact L40
    iexact D1
  iintro ⟨L40, D1⟩
  iapply (wp_received x y K 4 1 c (order.drop 12) (by decide)) $$ [HO A41]
  · iframe HK HO A41
  iintro ⟨HO, L41, Zr41⟩
  iapply (wp_copy c (landM 4) 1 (fore 1 c, 1) rfl (off9_down c) rfl) $$ [L41 D2]
  · isplitl [L41]; · iexact L41
    iexact D2
  iintro ⟨L41, D2⟩
  iapply (wp_received x y K 5 0 c (order.drop 12) (by decide)) $$ [HO A50]
  · iframe HK HO A50
  iintro ⟨HO, L50, Zr50⟩
  iapply (wp_copy c (landM 5) 0 (back 0 (back 0 c), 0) rfl (off7_two c) rfl) $$ [L50 D3]
  · isplitl [L50]; · iexact L50
    iexact D3
  iintro ⟨L50, D3⟩
  -- what was lent comes back
  rw [k0_part18_eq_skeleton]; unfold k0_part18_skel
  rw [k0_part19_eq_skeleton]; unfold k0_part19_skel
  rw [k0_part20_eq_skeleton]; unfold k0_part20_skel
  simp only [Prog.lift, Prog.bind_op, Prog.bind_ret, Prog.pure_eq_ret]
  iapply (wp_received x y K 5 1 c (order.drop 12) (by decide)) $$ [HO A51]
  · iframe HK HO A51
  iintro ⟨HO, L51, Zr51⟩
  iapply (wp_copy c (landM 5) 1 (back 1 (back 1 c), 1) rfl (off5_two c) rfl) $$ [L51 D4]
  · isplitl [L51]; · iexact L51
    iexact D4
  iintro ⟨L51, D4⟩
  iapply (wp_delivered x y K 0 0 c (lent_zero x y 0 c)) $$ [HO F00]
  · iframe HK HO F00
  iintro ⟨HO, C1, Zs00⟩
  iapply (wp_delivered x y K 0 1 c (lent_zero x y 1 c)) $$ [HO F01]
  · iframe HK HO F01
  iintro ⟨HO, C2, Zs01⟩
  iapply (wp_delivered x y K 1 0 c (lent_one x y 0 c)) $$ [HO F10]
  · iframe HK HO F10
  iintro ⟨HO, C3, Zs10⟩
  iapply (wp_delivered x y K 1 1 c (lent_one x y 1 c)) $$ [HO F11]
  · iframe HK HO F11
  iintro ⟨HO, C4, Zs11⟩
  iapply (wp_delivered x y K 2 0 c (lent_two x y 0 c)) $$ [HO F20]
  · iframe HK HO F20
  iintro ⟨HO, Hr0, Zs20⟩
  iapply (wp_delivered x y K 2 1 c (lent_two x y 1 c)) $$ [HO F21]
  · iframe HK HO F21
  iintro ⟨HO, Hr1, Zs21⟩
  iapply (wp_delivered x y K 3 0 c (lent_three x y 0 c)) $$ [HO F30]
  · iframe HK HO F30
  iintro ⟨HO, Hs0, Zs30⟩
  iapply (wp_delivered x y K 3 1 c (lent_three x y 1 c)) $$ [HO F31]
  · iframe HK HO F31
  iintro ⟨HO, Hs1, Zs31⟩
  iapply (wp_delivered x y K 4 0 c (lent_four x y 0 c)) $$ [HO F40]
  · iframe HK HO F40
  iintro ⟨HO, Hs0r, Zs40⟩
  iapply (wp_delivered x y K 4 1 c (lent_four x y 1 c)) $$ [HO F41]
  · iframe HK HO F41
  iintro ⟨HO, Hs1r, Zs41⟩
  iapply (wp_delivered x y K 5 0 c (lent_five x y 0 c)) $$ [HO F50]
  · iframe HK HO F50
  iintro ⟨HO, L30, Zs50⟩
  iapply (wp_delivered x y K 5 1 c (lent_five x y 1 c)) $$ [HO F51]
  · iframe HK HO F51
  iintro ⟨HO, L31, Zs51⟩
  rw [wp_ret]; imodintro
  unfold bodyPost buffers
  isplitl [HO]; · iexact HO
  isplitl [Hx]; · iexact Hx
  isplitl [Hy]; · iexact Hy
  isplitl [D1 D2 D3 D4 D5 D6 D7 D8]
  · iapply (join_answer x y c)
    iframe D1 D2 D3 D4 D5 D6
    isplitl [D7]; · iexact D7
    iexact D8
  isplitl [Ha Hb C1 C2 C3 C4 C5 C6 C7 C8 L00 L01 L10 L11 L20 L21 L30 L31 L30r L31r L40 L41 L50 L51 Hr0 Hr1 Hs0 Hs1 Hs0r Hs1r]
  · isplitl [Ha]; · unfold loose; iexists _; iexact Ha
    isplitl [Hb]; · unfold loose; iexists _; iexact Hb
    isplitl [C1 C2 C3 C4 C5 C6 C7 C8]
    · unfold loose
      iexists assemble (partialAt x y c)
      iapply (join_eight pM c (partialAt x y c))
      iframe C1 C2 C3 C4 C5 C6 C7 C8
    isplitl [L00 L01]
    · unfold loose; iapply (join_slots (landM 0) c fun s => slot (arriveAt x y 0 s c)); isplitl [L00]; · iexact L00
      iexact L01
    isplitl [L10 L11]
    · unfold loose; iapply (join_slots (landM 1) c fun s => slot (arriveAt x y 1 s c)); isplitl [L10]; · iexact L10
      iexact L11
    isplitl [Hr0 Hr1]
    · unfold loose; iapply (join_slots relayM c fun s => slot (relayAt x y s c)); isplitl [Hr0]; · iexact Hr0
      iexact Hr1
    isplitl [L20 L21]
    · unfold loose; iapply (join_slots (landM 2) c fun s => slot (arriveAt x y 2 s c)); isplitl [L20]; · iexact L20
      iexact L21
    isplitl [Hs0 Hs0r Hs1 Hs1r]
    · iapply (join_halves c sentM fun s => slot (sentAt x y s c))
      isplitl [Hs0]; · iexact Hs0
      isplitl [Hs0r]; · iexact Hs0r
      isplitl [Hs1]; · iexact Hs1
      iexact Hs1r
    isplitl [L30 L30r L31 L31r]
    · iapply (join_halves c (landM 3) fun s => slot (arriveAt x y 3 s c))
      isplitl [L30]; · iexact L30
      isplitl [L30r]; · iexact L30r
      isplitl [L31]; · iexact L31
      iexact L31r
    isplitl [L40 L41]
    · unfold loose; iapply (join_slots (landM 4) c fun s => slot (arriveAt x y 4 s c)); isplitl [L40]; · iexact L40
      iexact L41
    unfold loose; iapply (join_slots (landM 5) c fun s => slot (arriveAt x y 5 s c)); isplitl [L50]; · iexact L50
    iexact L51
  iframe Zs00 Zs01 Zs10 Zs11 Zs20 Zs21 Zs30 Zs31 Zs40 Zs41 Zs50 Zs51
  iframe Zr00 Zr01 Zr10 Zr11 Zr20 Zr21 Zr30 Zr31 Zr40 Zr41 Zr50 Zr51
  iexact Zb

end Body

end Cert.Ring

end
-- ==== Proof.Funds.lean ====
/-
# What the launch gives out

The cells of all devices are made at the launch: each device's semaphores at zero become its cells'
invariants, which every device then knows of, and the right to raise a cell goes to the device that raises
it. The credit a device waits with comes from what the others owe it.
-/
module

public import proofs.«01_k».proof.Proof.Body

@[expose] public section

set_option maxRecDepth 16384

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A device's own semaphores: the two ends of every message. -/
abbrev osem (k : Bool × Fin 6 × Fin 2) : SemLoc sig := csem (some k)
theorem ownSemFacts : Pipeline.OwnSemFacts cfg0.spec osem := by decide

/-! ## Conjunctions over a device's cells -/

omit [FloatOps F] in
/-- A conjunction over the messages, one by one; -/
theorem messages_eq (P : Fin 6 → Fin 2 → sProp 𝕄) : (bigSep Finset.univ fun i : Fin 6 × Fin 2 => P i.1 i.2) = twelve P := by
  rw [bigSep_univ_eq_bigSepL [(0, 0), (0, 1), (1, 0), (1, 1), (2, 0), (2, 1), (3, 0), (3, 1), (4, 0), (4, 1), (5, 0), (5, 1)]
    (by decide) (by decide)]
  rfl
omit [FloatOps F] in
/-- over the messages' ends; -/
theorem ends_eq (P : Bool × Fin 6 × Fin 2 → sProp 𝕄) : bigSep Finset.univ P
    = iprop((bigSep Finset.univ fun i : Fin 6 × Fin 2 => P (false, i)) ∗ bigSep Finset.univ fun i : Fin 6 × Fin 2 => P (true, i)) := by
  rw [bigSep_univ_prod, bigSep_univ_eq_bigSepL [false, true] (by decide) (by decide)]
  rfl
omit [FloatOps F] in
/-- over one thing more than a set. -/
theorem option_eq {I : Type} [Fintype I] (P : Option I → sProp 𝕄) : bigSep Finset.univ P
    = iprop(P none ∗ bigSep Finset.univ fun k : I => P (some k)) := by
  rw [bigSep_univ_equiv ((Equiv.optionEquivSumPUnit.{0} I).trans (Equiv.sumComm _ _)).symm P, bigSep_univ_sum, Finset.univ_unique, bigSep_singleton]
  rfl

/-! ## Cells and duties -/

theorem csem_injective : Function.Injective csem := by decide
theorem kcell_injective : Function.Injective (kcell : Dev nD × Cell → GSem nD τ sig) := by
  rintro ⟨c, k⟩ ⟨c', k'⟩ h
  have h1 : c = c' := congrArg (fun g : GSem nD τ sig => g.1.1) h
  have h2 : k = k' := csem_injective (congrArg Prod.snd h)
  rw [h1, h2]
def ringCells : Finset (GSem nD τ sig) := Finset.univ.map ⟨kcell, kcell_injective⟩

/-- A device's duties: each cell's first, and the barrier's second. -/
def dutyOf (p : Dev nD × Option Cell) : GSem nD τ sig × ℕ × Fin 2 := match p.2 with
  | none => (barCell p.1, 0, 1)
  | some k => (kcell (p.1, k), 0, 0)
theorem dutyOf_injective : Function.Injective dutyOf := by
  rintro ⟨c, k⟩ ⟨c', k'⟩ h
  cases k with
  | none => cases k' with
    | none => rw [show c = c' from congrArg (fun t : GSem nD τ sig × ℕ × Fin 2 => t.1.1.1) h]
    | some k' => exact absurd (congrArg (fun t : GSem nD τ sig × ℕ × Fin 2 => t.2.2) h) (show ¬(1 : Fin 2) = 0 by decide)
  | some k => cases k' with
    | none => exact absurd (congrArg (fun t : GSem nD τ sig × ℕ × Fin 2 => t.2.2) h) (show ¬(0 : Fin 2) = 1 by decide)
    | some k' =>
      have h' := kcell_injective (congrArg (fun t : GSem nD τ sig × ℕ × Fin 2 => t.1) h)
      rw [show c = c' from congrArg Prod.fst h', show k = k' from congrArg Prod.snd h']
def ringToks : Finset (GSem nD τ sig × ℕ × Fin 2) := Finset.univ.map ⟨dutyOf, dutyOf_injective⟩

/-- The resources the launch starts from. -/
def u₀ : UU :=
  (initOf (Pipeline.cells cfgs cellOf_inj) (Pipeline.launchToks cfgs cellOf_inj), initOf ringCells ringToks)

/-- The tokens of the duties at a device's own cells; -/
def toks (c : Dev nD) : sProp 𝕄 :=
  bigSep Finset.univ fun k : Option Cell => dutyTok ER (dutyOf (c, k)).1 (dutyOf (c, k)).2.1 (dutyOf (c, k)).2.2
/-- and of the duties it does. -/
def payToks (c : Dev nD) : sProp 𝕄 :=
  iprop(dutyTok ER (barCell (back 0 c)) 0 0 ∗ dutyTok ER (barCell (back 1 c)) 0 1
    ∗ (bigSep Finset.univ fun i : Fin 6 × Fin 2 => dutyTok ER (sendCell i.1 i.2 c) 0 0)
    ∗ bigSep Finset.univ fun i : Fin 6 × Fin 2 => dutyTok ER (recvCell i.1 i.2 (dest i.1 i.2 c)) 0 0)

def ring (s : Fin 2) : Dev nD ≃ Dev nD := ⟨back s, fore s, fore_back s, back_fore s⟩
def trip : Dev nD × Fin 6 × Fin 2 ≃ Dev nD × Fin 6 × Fin 2 where
  toFun p := (dest p.2.1 p.2.2 p.1, p.2)
  invFun p := (orig p.2.1 p.2.2 p.1, p.2)
  left_inv p := Prod.ext (orig_dest _ _ _) rfl
  right_inv p := Prod.ext (dest_orig _ _ _) rfl

omit [FloatOps F] in
theorem toks_eq (c : Dev nD) : (toks c : sProp 𝕄) = iprop(dutyTok ER (barCell c) 0 1 ∗ dutyTok ER (barCell c) 0 0
    ∗ (bigSep Finset.univ fun i : Fin 6 × Fin 2 => dutyTok ER (sendCell i.1 i.2 c) 0 0)
    ∗ bigSep Finset.univ fun i : Fin 6 × Fin 2 => dutyTok ER (recvCell i.1 i.2 c) 0 0) := by
  unfold toks
  rw [option_eq, option_eq, ends_eq]
  rfl

omit [FloatOps F] in
/-- The tokens handed to the devices that do the duties. -/
theorem toks_around : (bigSep Finset.univ fun c : Dev nD => (toks c : sProp 𝕄)) ⊢ bigSep Finset.univ fun c : Dev nD => payToks c := by
  have h : (bigSep Finset.univ fun c : Dev nD => bigSep Finset.univ fun i : Fin 6 × Fin 2 => (dutyTok ER (recvCell i.1 i.2 c) 0 0 : sProp 𝕄))
      = bigSep Finset.univ fun c : Dev nD => bigSep Finset.univ fun i : Fin 6 × Fin 2 => (dutyTok ER (recvCell i.1 i.2 (dest i.1 i.2 c)) 0 0 : sProp 𝕄) := by
    rw [← bigSep_univ_prod fun p : Dev nD × Fin 6 × Fin 2 => (dutyTok ER (recvCell p.2.1 p.2.2 p.1) 0 0 : sProp 𝕄),
      bigSep_univ_equiv trip, bigSep_univ_prod]
    rfl
  rw [bigSep_congr fun (c : Dev nD) _ => toks_eq (F := F) c]
  unfold payToks
  rw [bigSep_sep', bigSep_sep', bigSep_sep', bigSep_sep', bigSep_sep', bigSep_sep', h,
    bigSep_univ_equiv (ring 0) (fun c : Dev nD => (dutyTok ER (barCell c) 0 0 : sProp 𝕄)),
    bigSep_univ_equiv (ring 1) (fun c : Dev nD => (dutyTok ER (barCell c) 0 1 : sProp 𝕄))]
  iintro ⟨H1, H0, HS, HR⟩
  isplitl [H0]; · iexact H0
  isplitl [H1]; · iexact H1
  isplitl [HS] <;> iassumption

section Launch

variable (x : Dev nD → Vec F S1536x768 .f32) (y : Dev nD → Vec F S768x1536 .f32)

/-- What each device is dealt, -/
def G (c : Dev nD) : sProp 𝕄 :=
  iprop((bigSep Finset.univ fun k : Cell => roundState ER (Rd x y) (kcell (c, k)) 0)
    ∗ (bigSep Finset.univ fun k : Cell => atPos ER (kcell (c, k)) 0 ∅ 0)
    ∗ (bigSep Finset.univ fun k : Cell => reached ER (kcell (c, k)) 0) ∗ toks c)

/-- what all know once the cells are made, -/
def known (K : Dev nD × Cell → ℕ) : sProp 𝕄 :=
  iprop((bigSep Finset.univ fun ck : Dev nD × Cell => cellInv ER (Rd x y) (K ck) (kcell ck))
    ∗ bigSep Finset.univ fun ck : Dev nD × Cell => reached ER (kcell ck) 0)
instance known_persistent (K : Dev nD × Cell → ℕ) : BI.Persistent (known x y K) := by unfold known; infer_instance
/-- what each has to itself then, -/
def linear (c : Dev nD) : sProp 𝕄 :=
  iprop((bigSep Finset.univ fun k : Cell => atPos ER (kcell (c, k)) 0 ∅ 0) ∗ payToks c)
/-- and the two together. -/
def G' (c : Dev nD) : sProp 𝕄 := iprop(∃ K, known x y K ∗ linear c)

theorem fund_ring : BI.own (ER (initOf ringCells ringToks)) ⊢ (|==> bigSep Finset.univ (G x y) : sProp 𝕄) := by
  have hX (Φ : GSem nD τ sig → sProp 𝕄) :
      bigSep ringCells Φ = bigSep Finset.univ fun c : Dev nD => bigSep Finset.univ fun k : Cell => Φ (kcell (c, k)) := by
    unfold ringCells; rw [bigSep_map, bigSep_univ_prod]; rfl
  have hT : bigSep ringToks (fun t => (dutyTok ER t.1 t.2.1 t.2.2 : sProp 𝕄)) = bigSep Finset.univ fun c : Dev nD => toks c := by
    unfold ringToks toks; rw [bigSep_map, bigSep_univ_prod]; rfl
  iintro HX
  imod (Rounds.fund ER (Rd x y) ringCells ringToks) $$ HX with ⟨Hst, Hr, Hat, Htok⟩
  imodintro
  ihave Hst' := (Entails.of_eq (hX fun g => roundState ER (Rd x y) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr'] <;> iassumption

omit [FloatOps F] in
/-- The barrier is the launch's one unscoped semaphore; -/
theorem unscopedSems0_eq (c : Dev nD) : (unscopedSems0 c : sProp 𝕄) = semVal (barCell c) 0 := by
  unfold unscopedSems0; rw [bigSep_eq_bigSepL_of_eq [SemLoc.reg barS] (by decide) (by decide)]; rfl
omit [FloatOps F] in
/-- the others are the ends of the messages. -/
theorem ownSems0_eq (c : Dev nD) : (Pipeline.ownSems0 (Ix := Unit) (Name := ℕ) (U := UU) (Lvl := ℕ) (Val := Elt F) (τ := τ) osem c : sProp 𝕄)
    = iprop(twelve (fun f s => semVal (sendCell f s c) 0) ∗ twelve (fun f s => semVal (recvCell f s c) 0)) := by
  unfold Pipeline.ownSems0
  rw [ends_eq, ← messages_eq, ← messages_eq]
  rfl
omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Cell => semVal (kcell (c, k)) 0 : sProp 𝕄) := by
  rw [unscopedSems0_eq, option_eq]
  unfold Pipeline.ownSems0
  iintro ⟨HO, HB⟩
  isplitl [HB]; · iexact HB
  iexact HO

/-- One device's semaphores become its cells. -/
theorem core_alloc (c : Dev nD) :
    iprop(Pipeline.ownSems0 (Ix := Unit) (Name := ℕ) (U := UU) (Lvl := ℕ) (Val := Elt F) (τ := τ) osem c ∗ unscopedSems0 c ∗ G x y c)
      ⊢ |={Set.univ}=> iprop((bigSep Finset.univ fun k : Cell => iprop(∃ κ : ℕ, cellInv ER (Rd x y) κ (kcell (c, k))))
          ∗ (bigSep Finset.univ fun k : Cell => atPos ER (kcell (c, k)) 0 ∅ 0)
          ∗ (bigSep Finset.univ fun k : Cell => reached ER (kcell (c, k)) 0) ∗ toks c) := by
  have h : iprop((bigSep Finset.univ fun k : Cell => semVal (kcell (c, k)) 0)
        ∗ bigSep Finset.univ fun k : Cell => roundState ER (Rd x y) (kcell (c, k)) 0)
      ⊢ (|={Set.univ}=> bigSep Finset.univ fun k : Cell => iprop(∃ κ : ℕ, cellInv ER (Rd x y) κ (kcell (c, k))) : sProp 𝕄) := by
    rw [← bigSep_sep']
    exact (bigSep_mono fun k _ => (Rounds.body_intro ER (Rd x y) (kcell (c, k))).trans inv_alloc).trans (bigSep_fupd _ _)
  unfold G
  iintro ⟨Hos, Hus, Hst, Hrest⟩
  ihave Hv := (sems0_eq (F := F) c) $$ [Hos Hus]
  · isplitl [Hos] <;> iassumption
  imod h $$ [Hv Hst] with Hinv
  · isplitl [Hv] <;> iassumption
  imodintro
  isplitl [Hinv] <;> iassumption

/-- What all devices know collected, and the tokens handed round. -/
theorem regroup :
    (bigSep Finset.univ fun c : Dev nD => iprop((bigSep Finset.univ fun k : Cell => iprop(∃ κ : ℕ, cellInv ER (Rd x y) κ (kcell (c, k))))
          ∗ (bigSep Finset.univ fun k : Cell => atPos ER (kcell (c, k)) 0 ∅ 0)
          ∗ (bigSep Finset.univ fun k : Cell => reached ER (kcell (c, k)) 0) ∗ toks c) : sProp 𝕄)
      ⊢ bigSep Finset.univ (G' x y) := by
  have h (K : Dev nD × Cell → ℕ) (c : Dev nD) : iprop(known x y K ∗ linear c) ⊢ G' x y c := by
    unfold G'; iintro ⟨#H, Hl⟩; iexists K; isplitr; · iexact H
    iexact Hl
  rw [bigSep_sep', bigSep_sep', bigSep_sep', ← bigSep_univ_prod (fun ck : Dev nD × Cell => iprop(∃ κ : ℕ, cellInv ER (Rd x y) κ (kcell ck))),
    ← bigSep_univ_prod (fun ck : Dev nD × Cell => (reached ER (kcell ck) 0 : sProp 𝕄))]
  iintro ⟨HI, Hat, #HR, Htok⟩
  ihave HK := (BI.bigSep_exists_pi Finset.univ (fun (ck : Dev nD × Cell) (κ : ℕ) => (cellInv ER (Rd x y) κ (kcell ck) : sProp 𝕄))) $$ HI
  icases HK with ⟨%K, #HI⟩
  ihave Htk := (toks_around (F := F)) $$ Htok
  iapply (BI.bigSep_with_persistent (R := known x y K) fun c _ => h K c)
  isplitr
  · unfold known; isplitl; · iexact HI
    iexact HR
  · unfold linear
    rw [bigSep_sep']
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G x y c) : sProp 𝕄)
    ⊢ |={Set.univ}=> bigSep Finset.univ (G' x y) :=
  ((bigSep_mono fun c _ => core_alloc x y c).trans (bigSep_fupd _ _)).trans (BI.fupd_mono (regroup x y))

end Launch

/-! ## The launch credit -/

theorem recv_inj {f f' : Fin 6} {s s' : Fin 2} {c c' : Dev nD} (h : recvCell f s c = recvCell f' s' c') : (f, s) = (f', s') ∧ c = c' := by
  have h' : ((c, some (true, f, s)) : Dev nD × Cell) = (c', some (true, f', s')) := kcell_injective h
  exact ⟨congrArg Prod.snd (Option.some.inj (congrArg Prod.snd h')), congrArg Prod.fst h'⟩
theorem bar_inj {c c' : Dev nD} (h : barCell c = barCell c') : c = c' :=
  congrArg Prod.fst (kcell_injective (show kcell (c, none) = kcell (c', none) from h))
theorem recv_ne_bar {f : Fin 6} {s : Fin 2} {c c' : Dev nD} : recvCell f s c ≠ barCell c' := fun h => by
  cases (congrArg Prod.snd h)

/-- Messages are owed to the device they go to. -/
theorem due_recv (f : Fin 6) (s : Fin 2) (c d : Dev nD) : ∀ l : List (Fin 6 × Fin 2), l.Nodup →
    due d l (recvCell f s c) () = if (f, s) ∈ l ∧ dest f s d = c then N else 0
  | [], _ => by rw [if_neg fun h => nomatch h.1]; rfl
  | i :: l, hl => by
    have hi := (List.nodup_cons.mp hl).1
    unfold due
    rw [Pi.add_apply, Finsupp.add_apply, tallyAt_apply, due_recv f s c d l (List.nodup_cons.mp hl).2]
    by_cases h : (f, s) = i
    · subst h
      rw [if_neg fun h => hi h.1, Nat.zero_add]
      refine if_congr ⟨fun h => ⟨List.mem_cons_self, (recv_inj h.1).2.symm⟩, fun h => ⟨by rw [h.2], rfl⟩⟩ rfl rfl
    · rw [if_neg (show ¬(recvCell f s c = recvCell i.1 i.2 (dest i.1 i.2 d) ∧ () = ()) from fun h' => h (recv_inj h'.1).1), Nat.add_zero]
      exact if_congr (and_congr_left' ⟨List.mem_cons_of_mem _, fun h' => (List.mem_cons.mp h').resolve_left h⟩) rfl rfl
theorem due_bar (c d : Dev nD) : ∀ l : List (Fin 6 × Fin 2), due d l (barCell c) () = 0
  | [] => rfl
  | i :: l => by
    unfold due
    rw [Pi.add_apply, Finsupp.add_apply, tallyAt_ne_cell (fun h => recv_ne_bar h.symm), due_bar c d l, Finsupp.zero_apply, Nat.add_zero]

theorem order_nodup : order.Nodup := by decide
theorem mem_order (i : Fin 6 × Fin 2) : i ∈ order := by revert i; decide

theorem owed_recv (f : Fin 6) (s : Fin 2) (c d : Dev nD) : O₀ d (recvCell f s c) () = if d = orig f s c then N else 0 := by
  unfold O₀ O₁
  rw [Pi.add_apply, Finsupp.add_apply, Pi.add_apply, Finsupp.add_apply, tallyAt_ne_cell recv_ne_bar, tallyAt_ne_cell recv_ne_bar,
    Finsupp.zero_apply, Nat.add_zero, Nat.add_zero, due_recv f s c d order order_nodup]
  exact if_congr ⟨fun h => by rw [← h.2, orig_dest], fun h => ⟨mem_order _, by rw [h, dest_orig]⟩⟩ rfl rfl
theorem owed_bar (c d : Dev nD) : O₀ d (barCell c) () = (if d = fore 1 c then 1 else 0) + if d = fore 0 c then 1 else 0 := by
  have h (s : Fin 2) : (barCell c = barCell (back s d) ∧ () = ()) ↔ d = fore s c :=
    ⟨fun h => by rw [bar_inj h.1, fore_back], fun h => ⟨by rw [h, back_fore], rfl⟩⟩
  unfold O₀ O₁
  rw [Pi.add_apply, Finsupp.add_apply, Pi.add_apply, Finsupp.add_apply, tallyAt_apply, tallyAt_apply, due_bar, Nat.zero_add]
  exact congrArg₂ (· + ·) (if_congr (h 1) rfl rfl) (if_congr (h 0) rfl rfl)

theorem launch_recv (f : Fin 6) (s : Fin 2) (c : Dev nD) :
    tallyOn (recvCell f s c) (launchCredit (Pipeline.owing O₀) 0 (recvCell f s c)) = (tallyAt (recvCell f s c) () N : CellTallies nD τ sig Unit) := by
  unfold tallyAt; refine congrArg _ (Finsupp.ext fun u => ?_); cases u
  rw [Pipeline.launchCredit_owing, Finsupp.single_eq_same, Finset.sum_congr rfl fun d _ => owed_recv f s c d,
    Finset.sum_ite_eq' Finset.univ (orig f s c) fun _ => N, if_pos (Finset.mem_univ _)]
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar c d, Finset.sum_add_distrib,
    Finset.sum_ite_eq' Finset.univ (fore 1 c) fun _ => 1, Finset.sum_ite_eq' Finset.univ (fore 0 c) fun _ => 1,
    if_pos (Finset.mem_univ _), if_pos (Finset.mem_univ _)]

omit [FloatOps F] in
/-- A device's credit: two units at its barrier, and every message it is sent. -/
theorem creds (c : Dev nD) : (Pipeline.launchCred O₀ c : sProp 𝕄)
    ⊢ iprop(cred (tallyAt (barCell c) () 2) ∗ bigSep Finset.univ fun i : Fin 6 × Fin 2 => cred (tallyAt (recvCell i.1 i.2 c) () N)) := by
  let Φ (sm : SemLoc sig) : sProp 𝕄 := cred (tallyOn ((c : Thread nD τ), sm) (launchCredit (Pipeline.owing O₀) 0 ((c : Thread nD τ), sm)))
  have h : bigSep (Finset.univ.map ⟨csem, csem_injective⟩) Φ
      ⊢ iprop(Φ (.reg barS) ∗ bigSep Finset.univ fun i : Fin 6 × Fin 2 => Φ (.dma (recvS i.1 i.2))) := by
    rw [bigSep_map, option_eq, ends_eq]
    show iprop(Φ (.reg barS) ∗ (bigSep Finset.univ fun i : Fin 6 × Fin 2 => Φ (.dma (sendS i.1 i.2)))
      ∗ bigSep Finset.univ fun i : Fin 6 × Fin 2 => Φ (.dma (recvS i.1 i.2))) ⊢ _
    iintro ⟨H1, -, H2⟩
    isplitl [H1] <;> iassumption
  have e : iprop(cred (tallyAt (barCell c) () 2) ∗ bigSep Finset.univ fun i : Fin 6 × Fin 2 => cred (tallyAt (recvCell i.1 i.2 c) () N))
      = iprop(Φ (.reg barS) ∗ bigSep Finset.univ fun i : Fin 6 × Fin 2 => Φ (.dma (recvS i.1 i.2))) := by
    rw [← launch_bar]
    congr 1
    exact bigSep_congr fun i _ => congrArg cred (launch_recv i.1 i.2 c).symm
  rw [e]
  exact (bigSep_subset (Finset.subset_univ _)).trans h

end Cert.Ring

end
-- ==== Proof.Launch.lean ====
/-
# The kernel's run

From any memory with all counters at zero, over any float values: every weakly fair execution of the
program on the four devices ends, each device's answer is the array assembled from its chunks, the factors'
arrays are unchanged and every counter is back at zero.
-/
module

public import proofs.«01_k».proof.Proof.Funds
public import proofs.«01_k».proof.Proof.Gen.KernelIdeal.Points
public import Idealize.ShloMosaic.Lib.Pipeline.CollectiveSegs
public import Idealize.ShloMosaic.Lib.Pipeline.ValueKit.Geometry

@[expose] public section

set_option maxRecDepth 16384

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

section Launch

variable (m : (ℓ : Loc nD τ sig) → Buf (Elt F) ℓ) (ρ : Dev nD → PrngReg)

def memory : MemSt nD τ sig (Elt F) := ⟨m, fun _ => 0, ρ⟩

/-- A device's block of the first factor, as staged; -/
def xAt (c : Dev nD) : Vec F S1536x768 .f32 := (win0_0.blk t0_0).view.read (Elt F) (m ((c : Thread nD τ).loc main_arg0))
/-- of the second; -/
def yAt (c : Dev nD) : Vec F S768x1536 .f32 := (win0_1.blk t0_0).view.read (Elt F) (m ((c : Thread nD τ).loc main_arg1))
/-- its answer. -/
def zAt (c : Dev nD) : Vec F S1536x1536 .f32 := assemble (chunkAt (xAt m) (yAt m) c)

/-- What a device holds when the body starts, but for its buffers; -/
def start (c : Dev nD) : sProp 𝕄 :=
  iprop(G' (xAt m) (yAt m) c ∗ levAts L lv ∗ cred (tallyAt (barCell c) () 2)
    ∗ bigSep Finset.univ fun i : Fin 6 × Fin 2 => cred (tallyAt (recvCell i.1 i.2 c) () N))
def Φ₀ (c : Dev nD) : sProp 𝕄 := iprop(start m c ∗ buffers c)
/-- and when it has ended. -/
def Φ₁ (c : Dev nD) : sProp 𝕄 :=
  iprop(buffers c ∗ twelve (fun f s => semVal (sendCell f s c) 0) ∗ twelve (fun f s => semVal (recvCell f s c) 0) ∗ semVal (barCell c) 0)

def dats (_ : Fin 1) (c : Dev nD) : Dat τ (Elt F) Unit ℕ UU ℕ cfg0 c where
  A w := (memory m ρ).mem ((cfg0.win w).arr.view.loc (c : Thread nD τ))
  after w _ := match w with
    | ⟨0, _⟩ => xAt m c
    | ⟨1, _⟩ => yAt m c
    | ⟨2, _⟩ => zAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- The two factors' blocks are staged before the body. -/
theorem before_x (c : Dev nD) (d) : (dats m ρ 0 c).before (0 : Fin 3) t0_0 d = xAt m c := by
  unfold Dat.before; rw [if_pos (fetch0_0 t0_0)]; rfl
theorem before_y (c : Dev nD) (d) : (dats m ρ 0 c).before (1 : Fin 3) t0_0 d = yAt m c := by
  unfold Dat.before; rw [if_pos (fetch0_1 t0_0)]; rfl

/-! ## The body in the launch -/

/-- What the launch hands the body, -/
def given (c : Dev nD) : sProp 𝕄 :=
  iprop(Φ₀ m c ∗ (dats m ρ 0 c).owesAt () t0_0.castSucc
    ∗ (∃ d, owns (c : Thread nD τ) xM fullShare ((dats m ρ 0 c).before (0 : Fin 3) t0_0 d))
    ∗ (∃ d, owns (c : Thread nD τ) yM fullShare ((dats m ρ 0 c).before (1 : Fin 3) t0_0 d))
    ∗ (∃ d, owns (c : Thread nD τ) oM fullShare ((dats m ρ 0 c).before (2 : Fin 3) t0_0 d)))
/-- and what it takes back. -/
def taken (c : Dev nD) : sProp 𝕄 :=
  iprop(Φ₁ c ∗ (dats m ρ 0 c).owesAt () t0_0.succ
    ∗ owns (c : Thread nD τ) xM fullShare (xAt m c) ∗ owns (c : Thread nD τ) yM fullShare (yAt m c)
    ∗ owns (c : Thread nD τ) oM fullShare (zAt m c))

omit [FloatOps F] in
theorem linear_split (c : Dev nD) : iprop(linear (F := F) c ∗ bigSep Finset.univ fun i : Fin 6 × Fin 2 => cred (tallyAt (recvCell i.1 i.2 c) () N))
    ⊢ iprop(atPos ER (barCell c) 0 ∅ 0 ∗ dutyTok ER (barCell (back 0 c)) 0 0 ∗ dutyTok ER (barCell (back 1 c)) 0 1
      ∗ twelve (fun f s => pending f s c) ∗ twelve (fun f s => awaited f s c)) := by
  rw [← messages_eq, ← messages_eq]
  unfold linear payToks pending awaited
  rw [option_eq, ends_eq, bigSep_sep', bigSep_sep', bigSep_sep']
  iintro ⟨⟨⟨HB, HS, HR⟩, H0, H1, HtS, HtR⟩, HC⟩
  isplitl [HB]; · iexact HB
  isplitl [H0]; · iexact H0
  isplitl [H1]; · iexact H1
  isplitl [HS HtS HtR]
  · isplitl [HS]; · iexact HS
    isplitl [HtS]; · iexact HtS
    iexact HtR
  · isplitl [HR]; · iexact HR
    iexact HC

theorem given_pre (c : Dev nD) : given m ρ c ⊢ iprop(∃ K, bodyPre (xAt m) (yAt m) K c) := by
  unfold given Φ₀ start G'
  iintro ⟨⟨⟨⟨%K, #HK, Hlin⟩, #Hlev, Hbc, Hrc⟩, Hbuf⟩, HO, ⟨%d0, Hx⟩, ⟨%d1, Hy⟩, ⟨%d2, Ho⟩⟩
  iexists K
  ihave Hl := (linear_split (F := F) c) $$ [Hlin Hrc]
  · isplitl [Hlin] <;> iassumption
  icases Hl with ⟨Hbar, Ht0, Ht1, HP, HA⟩
  unfold Dat.owesAt Pipeline.owesWithin
  icases HO with ⟨%W, -, HO⟩
  rw [before_x, before_y]
  unfold bodyPre records known
  icases HK with ⟨#HI, #HR⟩
  isplitr
  · isplitr; · iexact HI
    isplitr; · iexact HR
    iexact Hlev
  isplitl [HO]; · iexists W; iexact HO
  isplitl [Hbar]; · iexact Hbar
  isplitl [Hbc]; · iexact Hbc
  isplitl [Ht0]; · iexact Ht0
  isplitl [Ht1]; · iexact Ht1
  isplitl [HP]; · iexact HP
  isplitl [HA]; · iexact HA
  isplitl [Hx]; · iexact Hx
  isplitl [Hy]; · iexact Hy
  isplitl [Ho]; · unfold loose; iexists _; iexact Ho
  iexact Hbuf

theorem post_taken (c : Dev nD) : bodyPost (xAt m) (yAt m) c ⊢ taken m ρ c := by
  unfold bodyPost taken Φ₁ zAt owing
  iintro ⟨⟨%W, HO⟩, Hx, Hy, Ho, Hbuf, HS, HR, HB⟩
  isplitl [Hbuf HS HR HB]
  · isplitl [Hbuf]; · iexact Hbuf
    isplitl [HS]; · iexact HS
    isplitl [HR] <;> iassumption
  isplitl [HO]
  · unfold Dat.owesAt Pipeline.owesWithin
    iexists W
    isplitr; · ipureintro; exact fun _ _ => Or.inl trivial
    iexact HO
  isplitl [Hx]; · iexact Hx
  isplitl [Hy] <;> iassumption

theorem body_obligation (c : Dev nD) : BodyObligation (dats m ρ 0 c) (defs₀ (F := F)) 𝒱₀ () Set.univ := fun t => by
  rw [fin_N0 t]
  rw [bigSep_W0, bigSep_W0]
  show given m ρ c ⊢ wp frame (wpE (defs₀ (F := F)) 𝒱₀ (c : Thread nD τ) none) Set.univ
    (cc0_body xM (Memref.isWhole_whole _) yM (Memref.isWhole_whole _) oM (Memref.isWhole_whole _)
        (Memref.whole cc0_scratch0) (Memref.isWhole_whole _) (Memref.whole cc0_scratch1) (Memref.isWhole_whole _)
        (Memref.whole cc0_scratch2) (Memref.isWhole_whole _) (Memref.whole cc0_scratch3) (Memref.isWhole_whole _)
        (Memref.whole cc0_scratch4) (Memref.isWhole_whole _) (Memref.whole cc0_scratch5) (Memref.isWhole_whole _)
        (Memref.whole cc0_scratch6) (Memref.isWhole_whole _) (Memref.whole cc0_scratch7) (Memref.isWhole_whole _)
        (Memref.whole cc0_scratch8) (Memref.isWhole_whole _) (Memref.whole cc0_scratch9) (Memref.isWhole_whole _)
        (Memref.whole cc0_scratch10) (Memref.isWhole_whole _) cc0_scratch11 cc0_scratch12) (fun _ => taken m ρ c)
  iintro H
  ihave H' := (given_pre m ρ c) $$ H
  icases H' with ⟨%K, H'⟩
  iapply (wp_wand_r frame _ _ (Q := fun _ => bodyPost (xAt m) (yAt m) c))
  isplitl [H']
  · iapply (body_run (xAt m) (yAt m) K c); iexact H'
  · iintro %_ Hp
    iapply (post_taken m ρ c); iexact Hp

/-! ## The launch's side conditions -/

theorem share_eq (c : Dev nD) (w : Fin cfg0.W) : (dats m ρ 0 c).share w = fullShare := by unfold Dat.share; split <;> rfl

omit [FloatOps F] in
/-- A whole buffer, whatever it holds, as a buffer of the kernel's. -/
theorem loose_whole (c : Dev nD) (b : Ref sig .tc) : iprop(∃ X, owns (c : Thread nD τ) (Memref.whole b) fullShare X)
    = (iprop(∃ f : Buf (Elt F) ((c : Thread nD τ).loc b), ((c : Thread nD τ).loc b) ↦{fullShare} f) : sProp 𝕄) := by
  have h (X : b.ty.Contents (Elt F)) : (owns (c : Thread nD τ) (Memref.whole b) fullShare X : sProp 𝕄)
      = iprop(∃ f : Buf (Elt F) ((c : Thread nD τ).loc b), ⌜f = X⌝ ∗ (((c : Thread nD τ).loc b) ↦{fullShare} f)) := by
    unfold owns; simp only [Memref.view_whole, View.read_whole, View.set_whole]
  have h1 : iprop(∃ X, owns (c : Thread nD τ) (Memref.whole b) fullShare X)
      ⊢ (iprop(∃ f : Buf (Elt F) ((c : Thread nD τ).loc b), ((c : Thread nD τ).loc b) ↦{fullShare} f) : sProp 𝕄) := by
    iintro ⟨%X, H⟩
    ihave H' := (Entails.of_eq (h X)) $$ H
    icases H' with ⟨%f, -, H'⟩
    iexists f; iexact H'
  have h2 : (iprop(∃ f : Buf (Elt F) ((c : Thread nD τ).loc b), ((c : Thread nD τ).loc b) ↦{fullShare} f) : sProp 𝕄)
      ⊢ iprop(∃ X, owns (c : Thread nD τ) (Memref.whole b) fullShare X) := by
    iintro ⟨%f, H⟩
    iexists f
    iapply (Entails.of_eq (h f).symm)
    iexists f
    isplitr; · ipureintro; rfl
    iexact H
  exact equiv_iff.mp ⟨h1, h2⟩

omit [FloatOps F] in
theorem buffers_eq (c : Dev nD) : (Pipeline.scopedRest cfg0.spec c : sProp 𝕄) = buffers c := by
  show (Pipeline.scopedRest spec0 c : sProp 𝕄) = _
  rw [scopedRest0_eq]
  simp only [← loose_whole]
  rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xAt m) (yAt m) c)
      ⊢ |={Set.univ}=> iprop(start m c ∗ emp) := by
  iintro ⟨-, Hlev, Hcr, -, HG⟩
  ihave Hc := (creds (F := F) c) $$ Hcr
  icases Hc with ⟨H1, HN⟩
  imodintro
  unfold start
  isplitl
  · isplitl [HG]; · iexact HG
    isplitl [Hlev]; · iexact Hlev
    isplitl [H1] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, buffers_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, buffers_eq, ownSems0_eq, unscopedSems0_eq]
  unfold Φ₁
  iintro ⟨Hr, HS, HR, HB⟩
  isplitl [HB]; · iexact HB
  isplitl [HS HR]
  · isplitl [HS]; · iexact HS
    iexact HR
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- The windows' arrays at the end. -/
def finalAt (c : Dev nD) (w : Fin cfg0.W) : Buf (Elt F) ((cfg0.win w).arr.view.loc (c : Thread nD τ)) := (dats m ρ 0 c).arrAt w cfg0.N

theorem run_windows : θ_run defs (onTc (τ := τ) (main (F := F))) (memory m ρ) (fun r =>
    (∀ (c : Dev nD) (w : Fin cfg0.W), r.2.mem ((cfg0.win w).arr.view.loc (c : Thread nD τ)) = finalAt m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c)) (hne := fun w => by fin_cases w <;> exact Nat.succ_pos _)
    (harr := arr_whole0) (hstage := stage_whole0) (hshare := share_eq m ρ) (hdistinct := winFacts0.arr_inj)
    (O₀ := O₀) (howed₀ := fun _ => rfl) (howedN := fun _ => rfl)
    (L := L) (lv := lv) (hL := L_of_ne) (hwaits := waits m ρ)
    (G := G (xAt m) (yAt m)) (G' := G' (xAt m) (yAt m)) (u₀ := u₀)
    (hu₀ := by
      unfold u₀
      iintro Hu
      ihave H := (ownU_pair _ _) $$ Hu
      icases H with ⟨HP, HX⟩
      imod (fund_ring (xAt m) (yAt m)) $$ HX with HG
      imodintro
      isplitl [HP] <;> iassumption)
    (hglob := glob (xAt m) (yAt m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The answer's array ends holding the answer. -/
theorem final_z (c : Dev nD) : finalAt m ρ c (2 : Fin 3) = zAt m c :=
  (dats m ρ 0 c).arrAt_eq_of_after_last (2 : Fin 3) t0_0 (by decide +kernel) _ fun j => rfl

/-- The run. -/
theorem run_main : θ_run defs (onTc (τ := τ) (main (F := F))) ⟨m, fun _ => 0, ρ⟩ (fun r =>
    (∀ c : Dev nD, r.2.mem ((c : Thread nD τ).loc main_v1) = zAt m c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun r h => ⟨fun c => ⟨(h.1 c (2 : Fin 3)).trans (final_z m ρ c),
    (h.1 c (0 : Fin 3)).trans ((dats m ρ 0 c).arrAt_in (0 : Fin 3) rfl _),
    (h.1 c (1 : Fin 3)).trans ((dats m ρ 0 c).arrAt_in (1 : Fin 3) rfl _)⟩, h.2⟩) (run_windows m ρ)

/-- The staged blocks are the arguments. -/
theorem xAt_eq (c : Dev nD) : xAt m c = m ((c : Thread nD τ).loc main_arg0) := by
  funext j
  exact congrArg (m ((c : Thread nD τ).loc main_arg0))
    (funext fun a => Fin.ext (Pipeline.Window.rect_emb_val_of_index_zero win0_0 t0_0 a (by revert a; decide +kernel) j))
theorem yAt_eq (c : Dev nD) : yAt m c = m ((c : Thread nD τ).loc main_arg1) := by
  funext j
  exact congrArg (m ((c : Thread nD τ).loc main_arg1))
    (funext fun a => Fin.ext (Pipeline.Window.rect_emb_val_of_index_zero win0_1 t0_0 a (by revert a; decide +kernel) j))

end Launch

end Cert.Ring

end
-- ==== Proof.Reference.lean ====
/-
# The reference

The reference's result, read at an index: the activation of an element of the product of the two arrays.
-/
module

public import proofs.«01_k».proof.Proof.Gen.ReferenceIdeal.Run
public import Idealize.ShloMosaic.PureOps.Ideal.Laws
public import Idealize.ShloMosaic.Lib.Pointwise

@[expose] public section

set_option maxRecDepth 16384

noncomputable section

namespace Cert.Ring

open Idealize.ShloMosaic Idealize.ShloMosaic.TcCoe Idealize.SL.Sem

/-- The activation, on one number. -/
def gelu (z : EReal) : EReal :=
  Ideal.ofBits .f32 0x3F000000#32 * z
    * (1 + Ideal.tanh (Ideal.ofBits .f32 0x3F4C422A#32 * (z + Ideal.ofBits .f32 0x3D372713#32 * z * z * z)))

section Reference

open Cert.ReferenceIdeal Cert.ReferenceIdeal.Gen

/-- The reference's result from its two arguments, operation by operation. -/
def plain (A : FVec Ideal S1536x3072 .f32) (B : FVec Ideal S3072x1536 .f32) : FVec Ideal S1536x1536 .f32 :=
  let z : FVec Ideal S1536x1536 .f32 := Host.dotGeneral dot_S1536x3072_S3072x1536_S1536x1536_1_0_0_1_n_n none A B
  let k (w : BitVec 32) : FVec Ideal S1536x1536 .f32 := broadcastInDim S1536x1536 ![] bcast_S_S1536x1536 (constant S_ .f32 w)
  mulf (mulf (k 0x3F000000#32) z)
    (addf (k 0x3F800000#32) (Host.tanh (mulf (k 0x3F4C422A#32) (addf z (mulf (mulf (mulf (k 0x3D372713#32) z) z) z)))))

/-- At an index it is the activation of a dot product. -/
theorem plain_apply (A : FVec Ideal S1536x3072 .f32) (B : FVec Ideal S3072x1536 .f32) (r q : Fin 1536) :
    plain A B (ix2 r q) = gelu (∑ k : Fin 3072, A (ix2 r k) * B (ix2 k q)) := by
  unfold plain gelu
  pointwise

/-- The reference's run ends with that result. -/
theorem run_reference (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c : Thread nD τ).loc main_v13) = plain (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)) :=
  Value.run m ρ

end Reference

end Cert.Ring

end
-- ==== Proof.Values.lean ====
/-
# What the answer holds

Over exact numbers every rounding is the identity, so that the four partial products of a chunk, in
whatever order the devices add them, make the sum of all four. Each element of the answer is then the
activation of a sum over the devices of dot products, and every device has the same.
-/
module

public import proofs.«01_k».proof.Proof.Contents
public import proofs.«01_k».proof.Proof.Reference

@[expose] public section

set_option maxRecDepth 16384

noncomputable section

namespace Cert.Ring

open Cert.KernelIdeal Cert.KernelIdeal.Gen Idealize.ShloMosaic

variable (x : Dev nD → Vec Ideal S1536x768 .f32) (y : Dev nD → Vec Ideal S768x1536 .f32)

/-- A partial product is a dot product. -/
theorem partialAt_apply (d : Dev nD) (t : Dev nD × Fin 2) (r : Fin 384) (q : Fin 768) :
    partialAt x y d t (ix2 r q) = ∑ k : Fin 768, x d ((rectA t.1).emb (ix2 r k)) * y d ((rectB t.2).emb (ix2 k q)) := by
  unfold partialAt k0_pay3 k0_pay1 k0_pay2 rowsOf colsOf
  pointwise

/-- All four devices, from any of them on around the ring. -/
theorem sum_around {A : Type} [AddCommMonoid A] (f : Dev nD → A) (s : Fin 2) (d : Dev nD) :
    f d + f (back s d) + (f (back s (back s d)) + f (fore s d)) = ∑ e : Dev nD, f e := by
  have h : (Finset.univ : Finset (Dev nD)) = {d, back s d, back s (back s d), fore s d} := by revert s d; decide
  have h1 : d ∉ ({back s d, back s (back s d), fore s d} : Finset (Dev nD)) := by revert s d; decide
  have h2 : back s d ∉ ({back s (back s d), fore s d} : Finset (Dev nD)) := by revert s d; decide
  have h3 : back s (back s d) ∉ ({fore s d} : Finset (Dev nD)) := by revert s d; decide
  rw [h, Finset.sum_insert h1, Finset.sum_insert h2, Finset.sum_insert h3, Finset.sum_singleton, add_assoc]

/-- A finished chunk is the activation of the sum of the four partial products. -/
theorem doneAt_apply (s : Fin 2) (d : Dev nD) (i : S384x768.Idx) :
    doneAt x y s d i = gelu (∑ e : Dev nD, partialAt x y e (d, s) i) := by
  rw [← sum_around (fun e => partialAt x y e (d, s) i) s d]
  idx_vars i
  unfold doneAt relayAt k0_pay16 k0_pay12 slot k0_pay13 gelu
  pointwise
  rw [back_fore, fore_fore]

/-- Every device holds the same. -/
theorem chunkAt_apply (c : Dev nD) (t : Dev nD × Fin 2) (i : S384x768.Idx) :
    chunkAt x y c t i = gelu (∑ e : Dev nD, partialAt x y e t i) := by
  rw [← doneAt_apply x y t.2 t.1 i]
  unfold chunkAt
  split
  · rename_i h; rw [h]
  · idx_vars i
    unfold sentAt k0_pay20 slot k0_pay13
    pointwise

/-- The answer at an index. -/
theorem answer_apply (c : Dev nD) (r q : Fin 1536) :
    assemble (chunkAt x y c) (ix2 r q) = gelu (∑ e : Dev nD, ∑ k : Fin 768, x e (ix2 r k) * y e (ix2 k q)) := by
  have hr (k : Fin 768) : (rectA (chunkOf (ix2 r q)).1).emb (ix2 (innerOf (ix2 r q) 0) k) = ix2 r k := by
    funext a
    fin_cases a
    · refine Fin.ext ?_
      have h : ((rectA (chunkOf (ix2 r q)).1).emb (ix2 (innerOf (ix2 r q) 0) k) 0).val = 384 * (r.val / 384) + r.val % 384 := by
        simp [Rect.emb, Rect.unit, offA, chunkOf, innerOf]
      exact h.trans (Nat.div_add_mod _ _)
    · exact Fin.ext (by simp [Rect.emb, Rect.unit, offA])
  have hq (k : Fin 768) : (rectB (chunkOf (ix2 r q)).2).emb (ix2 k (innerOf (ix2 r q) 1)) = ix2 k q := by
    funext a
    fin_cases a
    · exact Fin.ext (by simp [Rect.emb, Rect.unit, offB])
    · refine Fin.ext ?_
      have h : ((rectB (chunkOf (ix2 r q)).2).emb (ix2 k (innerOf (ix2 r q) 1)) 1).val = 768 * (q.val / 768) + q.val % 768 := by
        simp [Rect.emb, Rect.unit, offB, chunkOf, innerOf]
      exact h.trans (Nat.div_add_mod _ _)
  have hi : innerOf (ix2 r q) = ix2 (innerOf (ix2 r q) 0) (innerOf (ix2 r q) 1) := eq_ix2 _
  unfold assemble
  rw [chunkAt_apply]
  refine congrArg gelu (Finset.sum_congr rfl fun e _ => ?_)
  refine (congrArg (partialAt x y e (chunkOf (ix2 r q))) hi).trans ((partialAt_apply x y e _ _ _).trans ?_)
  exact Finset.sum_congr rfl fun k _ => congrArg₂ (· * ·) (congrArg (x e) (hr k)) (congrArg (y e) (hq k))

end Cert.Ring

end
-- ==== Proof.Equation.lean ====
/-
# The answer is the reference's

Where each device's arrays are its blocks of two whole arrays, the sum over the devices of their dot
products is the whole arrays' dot product, so that every device's answer is the reference's result.
-/
module

public import proofs.«01_k».proof.Proof.Values
public import Idealize.ShloMosaic.Lib.Layout

@[expose] public section

set_option maxRecDepth 16384

noncomputable section

namespace Cert.Ring

open Cert.KernelIdeal Cert.KernelIdeal.Gen Idealize.ShloMosaic

/-- A sum over 3072 positions, four lots of 768. -/
theorem sum_lots {A : Type} [AddCommMonoid A] (f : Fin 3072 → A) :
    ∑ e : Fin 4, ∑ k : Fin 768, f ⟨e.val * 768 + k.val, by omega⟩ = ∑ k : Fin 3072, f k := by
  rw [← Fintype.sum_prod_type' (fun (e : Fin 4) (k : Fin 768) => f ⟨e.val * 768 + k.val, by omega⟩)]
  exact Fintype.sum_equiv (finProdFinEquiv (m := 4) (n := 768)) _ f fun p =>
    congrArg f (Fin.ext (by simp [finProdFinEquiv]; omega))

/-- A device's columns of the first array. -/
theorem block_x (A : FVec Ideal ⟨2, ![1536, 3072]⟩ .f32) (e : Fin 4) (r : Fin 1536) (k : Fin 768) :
    Layout.block ⟨2, ![1536, 768]⟩ ⟨2, ![1536, 3072]⟩ 1 4 e A (by decide) (ix2 r k) = A (ix2 r ⟨e.val * 768 + k.val, by omega⟩) :=
  congrArg A (eq_ix2 _)

/-- A device's rows of the second. -/
theorem block_y (B : FVec Ideal ⟨2, ![3072, 1536]⟩ .f32) (e : Fin 4) (k : Fin 768) (q : Fin 1536) :
    Layout.block ⟨2, ![768, 1536]⟩ ⟨2, ![3072, 1536]⟩ 0 4 e B (by decide) (ix2 k q) = B (ix2 ⟨e.val * 768 + k.val, by omega⟩ q) :=
  congrArg B (eq_ix2 _)

/-- Every device's answer is the reference's result. -/
theorem answer_eq (A : FVec Ideal ⟨2, ![1536, 3072]⟩ .f32) (B : FVec Ideal ⟨2, ![3072, 1536]⟩ .f32)
    (x : Dev nD → Vec Ideal S1536x768 .f32) (y : Dev nD → Vec Ideal S768x1536 .f32)
    (hx : ∀ e, x e = Layout.block ⟨2, ![1536, 768]⟩ ⟨2, ![1536, 3072]⟩ 1 4 e A (by decide))
    (hy : ∀ e, y e = Layout.block ⟨2, ![768, 1536]⟩ ⟨2, ![3072, 1536]⟩ 0 4 e B (by decide)) (c : Dev nD) :
    assemble (chunkAt x y c) = plain A B := by
  have h (r q : Fin 1536) : assemble (chunkAt x y c) (ix2 r q) = plain A B (ix2 r q) := by
    refine (answer_apply x y c r q).trans (Eq.trans (congrArg gelu ?_) (plain_apply A B r q).symm)
    refine Eq.trans ?_ (sum_lots fun k => A (ix2 r k) * B (ix2 k q))
    refine Finset.sum_congr rfl fun e _ => Finset.sum_congr rfl fun k _ => congrArg₂ (· * ·) ?_ ?_
    · exact (congrFun (hx e) _).trans (block_x A e r k)
    · exact (congrFun (hy e) _).trans (block_y B e k q)
  funext i
  exact (congrArg _ (eq_ix2 i)).trans ((h (i 0) (i 1)).trans (congrArg _ (eq_ix2 i).symm))

end Cert.Ring

end
-- ==== Proof.lean ====
/-
# The claims

Each program runs and leaves its arguments and counters as they were; over exact numbers every device's
answer is the reference's result.
-/
module

public import proofs.«01_k».proof.Defs
public import proofs.«01_k».proof.Proof.Same
public import proofs.«01_k».proof.Proof.Launch
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel runs, and leaves its arguments and counters as they were. -/
theorem frame_kernel : Cert.quiescent_Kernel := fun m ρ _ =>
  (congrArg (fun d => θ_run d (onTc (τ := Cert.KernelIdeal.τ) (Cert.KernelIdeal.main (F := Bits))) ⟨m, fun _ => 0, ρ⟩ _)
      Cert.Ring.defs_same).mpr
    ((θ_run Cert.KernelIdeal.defs _ _).mono (fun _ h => ⟨fun c => (h.1 c).2, h.2⟩) (Cert.Ring.run_main (F := Bits) m ρ))

/-- So does the same text over exact numbers. -/
theorem frame_ideal : Cert.quiescent_KernelIdeal := fun m ρ _ =>
  (θ_run Cert.KernelIdeal.defs _ _).mono (fun _ h => ⟨fun c => (h.1 c).2, h.2⟩) (Cert.Ring.run_main (F := Ideal) m ρ)

/-- So does the reference, which has no counters. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.Ring.run_reference m ρ)

/-- On every device the kernel's result is the reference's. -/
theorem same_result : Cert.algebraic_KernelIdeal_ReferenceIdeal := fun m ρ m' ρ' _ hm =>
  ⟨Cert.Ring.plain (m' ((0 : Dev Cert.ReferenceIdeal.nD).tc.loc Cert.ReferenceIdeal.main_arg0))
      (m' ((0 : Dev Cert.ReferenceIdeal.nD).tc.loc Cert.ReferenceIdeal.main_arg1)),
    (θ_run Cert.KernelIdeal.defs _ _).mono
      (fun _ h c => ⟨(h.1 c).1.trans (Cert.Ring.answer_eq _ _ (Cert.Ring.xAt m) (Cert.Ring.yAt m)
        (fun e => (Cert.Ring.xAt_eq m e).trans (hm e).1) (fun e => (Cert.Ring.yAt_eq m e).trans (hm e).2) c), (h.1 c).2⟩)
      (Cert.Ring.run_main (F := Ideal) m ρ),
    (θ_run Cert.ReferenceIdeal.defs _ _).mono (fun _ h => h 0) (Cert.Ring.run_reference m' ρ')⟩

/-- Everything claimed. -/
theorem claim : Cert.Claim :=
  ⟨Cert.Kernel.Gen.facts, Cert.KernelIdeal.Gen.facts, Cert.ReferenceIdeal.Gen.facts,
    frame_kernel, frame_ideal, frame_reference, trivial, same_result⟩

end Cert.Proof

end
